-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_normal [hPre_scales_normal : Cert.Pre_scales_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_normal [hPre_scales_normal : Cert.Pre_scales_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_normal [hKernelIdeal : Cert.KernelIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_normal [hReferenceIdeal : Cert.ReferenceIdeal.Facts] [hPre_scales_normal : Cert.Pre_scales_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "score_scale_log2e" .f32 0x3E0293EE#32 (((Real.sqrt 128)⁻¹ * (Real.log 2)⁻¹ : ℝ) : EReal)
  ∧ IdealRules.named_const.Statement Cert.KernelIdeal.κ "inv_e4m3_max" .f32 0x3B124925#32 ((1 / 448 : ℝ) : EReal)

def algebraic_KernelIdeal_ReferenceIdeal_pre_scales_normal [hKernelIdeal : Cert.KernelIdeal.Facts] [hReferenceIdeal : Cert.ReferenceIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_normal : Cert.Pre_scales_normal.Facts),
    quiescent_Kernel (hKernel := hKernel)
    ∧ quiescent_KernelIdeal (hKernelIdeal := hKernelIdeal)
    ∧ quiescent_KernelIdeal_pre_scales_normal (hKernelIdeal := hKernelIdeal) (hPre_scales_normal := hPre_scales_normal)
    ∧ quiescent_ReferenceIdeal (hReferenceIdeal := hReferenceIdeal)
    ∧ quiescent_ReferenceIdeal_pre_scales_normal (hReferenceIdeal := hReferenceIdeal) (hPre_scales_normal := hPre_scales_normal)
    ∧ preserves_Kernel_KernelIdeal
    ∧ algebraic_KernelIdeal_ReferenceIdeal_pre_scales_normal (hKernelIdeal := hKernelIdeal) (hReferenceIdeal := hReferenceIdeal) (hPre_scales_normal := hPre_scales_normal)
-- ==== Pre_scales_normal.lean ====
abbrev S2x56x1024x128 : Shape := ⟨4, ![2, 56, 1024, 128]⟩
abbrev S2x56x1024x4 : Shape := ⟨4, ![2, 56, 1024, 4]⟩
abbrev S2x8x1024x128 : Shape := ⟨4, ![2, 8, 1024, 128]⟩
abbrev S2x8x1024x4 : Shape := ⟨4, ![2, 8, 1024, 4]⟩
abbrev S2x8x128x1024 : Shape := ⟨4, ![2, 8, 128, 1024]⟩
abbrev S2x8x128x32 : Shape := ⟨4, ![2, 8, 128, 32]⟩
abbrev S_ : Shape := ⟨0, ![]⟩

class Facts : Prop where
  bcast_S_S2x56x1024x4 : S_.BroadcastsInDim S2x56x1024x4 (![] : Fin 0 → Fin S2x56x1024x4.rank)
  reducesTo_S2x56x1024x4_S_d0_1_2_3 : S2x56x1024x4.ReducesTo [0, 1, 2, 3] S_
  h_S_ : 0 < S_.numel
  bcast_S_S2x8x1024x4 : S_.BroadcastsInDim S2x8x1024x4 (![] : Fin 0 → Fin S2x8x1024x4.rank)
  reducesTo_S2x8x1024x4_S_d0_1_2_3 : S2x8x1024x4.ReducesTo [0, 1, 2, 3] S_
  bcast_S_S2x8x128x32 : S_.BroadcastsInDim S2x8x128x32 (![] : Fin 0 → Fin S2x8x128x32.rank)
  reducesTo_S2x8x128x32_S_d0_1_2_3 : S2x8x128x32.ReducesTo [0, 1, 2, 3] S_

variable [Facts]

def fn_part1 {F : FTy → Type} [FloatOps F] (main_arg5 : IVec S2x8x128x32 8) (main_v12 : IVec S_ 1) (main_v14 : IVec S2x8x128x32 1) (main_v15 : IVec S2x8x128x32 8) : IVec S_ 1 :=
  let main_v16 : IVec S2x8x128x32 1 := cmpi .ule main_arg5 main_v15
  let main_v17 : IVec S2x8x128x32 1 := andi main_v14 main_v16
  let main_c_7 : IVec S_ 1 := constantI S_ 1 1#1
  let main_v18 : IVec S_ 1 := (fun x v => Host.reduce IntOp.andi x v reducesTo_S2x8x128x32_S_d0_1_2_3 h_S_) main_v17 main_c_7
  let main_v19 : IVec S_ 1 := andi main_v12 main_v18
  main_v19

def fn {F : FTy → Type} [FloatOps F] (main_arg0 : FVec F S2x56x1024x128 .fp8e4m3) (main_arg1 : IVec S2x56x1024x4 8) (main_arg2 : FVec F S2x8x1024x128 .fp8e4m3) (main_arg3 : IVec S2x8x1024x4 8) (main_arg4 : FVec F S2x8x128x1024 .fp8e4m3) (main_arg5 : IVec S2x8x128x32 8) : IVec S_ 1 :=
  let main_c : IVec S_ 8 := constantI S_ 8 1#8
  let main_v0 : IVec S2x56x1024x4 8 := broadcastInDim S2x56x1024x4 ![] bcast_S_S2x56x1024x4 main_c
  let main_v1 : IVec S2x56x1024x4 1 := cmpi .uge main_arg1 main_v0
  let main_c_0 : IVec S_ 8 := constantI S_ 8 254#8
  let main_v2 : IVec S2x56x1024x4 8 := broadcastInDim S2x56x1024x4 ![] bcast_S_S2x56x1024x4 main_c_0
  let main_v3 : IVec S2x56x1024x4 1 := cmpi .ule main_arg1 main_v2
  let main_v4 : IVec S2x56x1024x4 1 := andi main_v1 main_v3
  let main_c_1 : IVec S_ 1 := constantI S_ 1 1#1
  let main_v5 : IVec S_ 1 := (fun x v => Host.reduce IntOp.andi x v reducesTo_S2x56x1024x4_S_d0_1_2_3 h_S_) main_v4 main_c_1
  let main_c_2 : IVec S_ 8 := constantI S_ 8 1#8
  let main_v6 : IVec S2x8x1024x4 8 := broadcastInDim S2x8x1024x4 ![] bcast_S_S2x8x1024x4 main_c_2
  let main_v7 : IVec S2x8x1024x4 1 := cmpi .uge main_arg3 main_v6
  let main_c_3 : IVec S_ 8 := constantI S_ 8 254#8
  let main_v8 : IVec S2x8x1024x4 8 := broadcastInDim S2x8x1024x4 ![] bcast_S_S2x8x1024x4 main_c_3
  let main_v9 : IVec S2x8x1024x4 1 := cmpi .ule main_arg3 main_v8
  let main_v10 : IVec S2x8x1024x4 1 := andi main_v7 main_v9
  let main_c_4 : IVec S_ 1 := constantI S_ 1 1#1
  let main_v11 : IVec S_ 1 := (fun x v => Host.reduce IntOp.andi x v reducesTo_S2x8x1024x4_S_d0_1_2_3 h_S_) main_v10 main_c_4
  let main_v12 : IVec S_ 1 := andi main_v5 main_v11
  let main_c_5 : IVec S_ 8 := constantI S_ 8 1#8
  let main_v13 : IVec S2x8x128x32 8 := broadcastInDim S2x8x128x32 ![] bcast_S_S2x8x128x32 main_c_5
  let main_v14 : IVec S2x8x128x32 1 := cmpi .uge main_arg5 main_v13
  let main_c_6 : IVec S_ 8 := constantI S_ 8 254#8
  let main_v15 : IVec S2x8x128x32 8 := broadcastInDim S2x8x128x32 ![] bcast_S_S2x8x128x32 main_c_6
  fn_part1 (F := F) main_arg5 main_v12 main_v14 main_v15
-- ==== Kernel.lean ====
abbrev S2x56x1024x128 : Shape := ⟨4, ![2, 56, 1024, 128]⟩
abbrev S2x56x1024x4 : Shape := ⟨4, ![2, 56, 1024, 4]⟩
abbrev S2x8x1024x128 : Shape := ⟨4, ![2, 8, 1024, 128]⟩
abbrev S2x8x1024x4 : Shape := ⟨4, ![2, 8, 1024, 4]⟩
abbrev S2x8x128x1024 : Shape := ⟨4, ![2, 8, 128, 1024]⟩
abbrev S2x8x128x32 : Shape := ⟨4, ![2, 8, 128, 32]⟩
abbrev S1x7x1024x128 : Shape := ⟨4, ![1, 7, 1024, 128]⟩
abbrev S1x7x1024x4 : Shape := ⟨4, ![1, 7, 1024, 4]⟩
abbrev S1x1x1024x128 : Shape := ⟨4, ![1, 1, 1024, 128]⟩
abbrev S1x1x1024x4 : Shape := ⟨4, ![1, 1, 1024, 4]⟩
abbrev S1x1x128x1024 : Shape := ⟨4, ![1, 1, 128, 1024]⟩
abbrev S1x1x128x32 : Shape := ⟨4, ![1, 1, 128, 32]⟩
abbrev S1024x128 : Shape := ⟨2, ![1024, 128]⟩
abbrev S128x1024 : Shape := ⟨2, ![128, 1024]⟩
abbrev S4x256x256 : Shape := ⟨3, ![4, 256, 256]⟩
abbrev S256x256 : Shape := ⟨2, ![256, 256]⟩
abbrev S1024x4 : Shape := ⟨2, ![1024, 4]⟩
abbrev S4x128 : Shape := ⟨2, ![4, 128]⟩
abbrev S128x32 : Shape := ⟨2, ![128, 32]⟩
abbrev S32x1024 : Shape := ⟨2, ![32, 1024]⟩
abbrev S256x128 : Shape := ⟨2, ![256, 128]⟩
abbrev S128x256 : Shape := ⟨2, ![128, 256]⟩
abbrev S1x1x256x128 : Shape := ⟨4, ![1, 1, 256, 128]⟩
abbrev S1x1x256x4 : Shape := ⟨4, ![1, 1, 256, 4]⟩
abbrev S256x4 : Shape := ⟨2, ![256, 4]⟩
abbrev S1x256x256 : Shape := ⟨3, ![1, 256, 256]⟩
abbrev S32x8x256 : Shape := ⟨3, ![32, 8, 256]⟩
abbrev S8x256 : Shape := ⟨2, ![8, 256]⟩
abbrev S256 : Shape := ⟨1, ![256]⟩
abbrev S1x256 : Shape := ⟨2, ![1, 256]⟩
abbrev S255x8x256 : Shape := ⟨3, ![255, 8, 256]⟩
abbrev S1x8x256 : Shape := ⟨3, ![1, 8, 256]⟩
abbrev S16x256 : Shape := ⟨2, ![16, 256]⟩
abbrev S16x16x256 : Shape := ⟨3, ![16, 16, 256]⟩
abbrev S1x16x256 : Shape := ⟨3, ![1, 16, 256]⟩

abbrev nBuf : Space → Nat
  | .hbm => 7
  | .vmem => 17
  | .smem => 0
  | _ => 0

abbrev bufTy : (tb : Table) → Fin (tcTables nBuf tb) → BufTy
  | .hbm, ⟨0, _⟩ => ⟨S2x56x1024x128, .fp8e4m3⟩
  | .hbm, ⟨1, _⟩ => ⟨S2x56x1024x4, .i8⟩
  | .hbm, ⟨2, _⟩ => ⟨S2x8x1024x128, .fp8e4m3⟩
  | .hbm, ⟨3, _⟩ => ⟨S2x8x1024x4, .i8⟩
  | .hbm, ⟨4, _⟩ => ⟨S2x8x128x1024, .fp8e4m3⟩
  | .hbm, ⟨5, _⟩ => ⟨S2x8x128x32, .i8⟩
  | .hbm, ⟨6, _⟩ => ⟨S2x56x1024x128, .bf16⟩
  | .local _ .vmem, ⟨0, _⟩ => ⟨S1x7x1024x128, .fp8e4m3⟩
  | .local _ .vmem, ⟨1, _⟩ => ⟨S1x7x1024x128, .fp8e4m3⟩
  | .local _ .vmem, ⟨2, _⟩ => ⟨S1x7x1024x4, .i8⟩
  | .local _ .vmem, ⟨3, _⟩ => ⟨S1x7x1024x4, .i8⟩
  | .local _ .vmem, ⟨4, _⟩ => ⟨S1x1x1024x128, .fp8e4m3⟩
  | .local _ .vmem, ⟨5, _⟩ => ⟨S1x1x1024x128, .fp8e4m3⟩
  | .local _ .vmem, ⟨6, _⟩ => ⟨S1x1x1024x4, .i8⟩
  | .local _ .vmem, ⟨7, _⟩ => ⟨S1x1x1024x4, .i8⟩
  | .local _ .vmem, ⟨8, _⟩ => ⟨S1x1x128x1024, .fp8e4m3⟩
  | .local _ .vmem, ⟨9, _⟩ => ⟨S1x1x128x1024, .fp8e4m3⟩
  | .local _ .vmem, ⟨10, _⟩ => ⟨S1x1x128x32, .i8⟩
  | .local _ .vmem, ⟨11, _⟩ => ⟨S1x1x128x32, .i8⟩
  | .local _ .vmem, ⟨12, _⟩ => ⟨S1x7x1024x128, .bf16⟩
  | .local _ .vmem, ⟨13, _⟩ => ⟨S1x7x1024x128, .bf16⟩
  | .local _ .vmem, ⟨14, _⟩ => ⟨S1024x128, .bf16⟩
  | .local _ .vmem, ⟨15, _⟩ => ⟨S128x1024, .bf16⟩
  | .local _ .vmem, ⟨16, _⟩ => ⟨S4x256x256, .f32⟩
  | _, _ => ⟨S2x56x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x7x1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x7x1024x4 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x4 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x32 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x7x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "inv_e4m3_max" => some ((1 / 448 : ℝ) : EReal)
  | "score_scale_log2e" => some (((Real.sqrt 128)⁻¹ * (Real.log 2)⁻¹ : ℝ) : EReal)
  | _ => none
-- ==== ReferenceIdeal.lean ====
abbrev S2x56x1024x128 : Shape := ⟨4, ![2, 56, 1024, 128]⟩
abbrev S2x56x1024x4 : Shape := ⟨4, ![2, 56, 1024, 4]⟩
abbrev S2x8x1024x128 : Shape := ⟨4, ![2, 8, 1024, 128]⟩
abbrev S2x8x1024x4 : Shape := ⟨4, ![2, 8, 1024, 4]⟩
abbrev S2x8x128x1024 : Shape := ⟨4, ![2, 8, 128, 1024]⟩
abbrev S2x8x128x32 : Shape := ⟨4, ![2, 8, 128, 32]⟩
abbrev S2x56x1024x4x32 : Shape := ⟨5, ![2, 56, 1024, 4, 32]⟩
abbrev S2x56x1024x4x1 : Shape := ⟨5, ![2, 56, 1024, 4, 1]⟩
abbrev S16x7168x128 : Shape := ⟨3, ![16, 7168, 128]⟩
abbrev S2x8x1024x4x32 : Shape := ⟨5, ![2, 8, 1024, 4, 32]⟩
abbrev S2x8x1024x4x1 : Shape := ⟨5, ![2, 8, 1024, 4, 1]⟩
abbrev S16x1024x128 : Shape := ⟨3, ![16, 1024, 128]⟩
abbrev S2x8x128x32x32 : Shape := ⟨5, ![2, 8, 128, 32, 32]⟩
abbrev S2x8x128x32x1 : Shape := ⟨5, ![2, 8, 128, 32, 1]⟩
abbrev S16x128x1024 : Shape := ⟨3, ![16, 128, 1024]⟩
abbrev S16x7168x1024 : Shape := ⟨3, ![16, 7168, 1024]⟩
abbrev S16x7x1024x1024 : Shape := ⟨4, ![16, 7, 1024, 1024]⟩
abbrev S16x7x1024 : Shape := ⟨3, ![16, 7, 1024]⟩
abbrev S16x7x1024x1 : Shape := ⟨4, ![16, 7, 1024, 1]⟩
abbrev S16x7x1024x32x32 : Shape := ⟨5, ![16, 7, 1024, 32, 32]⟩
abbrev S16x7x1024x32 : Shape := ⟨4, ![16, 7, 1024, 32]⟩
abbrev S16x7x1024x32x1 : Shape := ⟨5, ![16, 7, 1024, 32, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x56x1024x128, .fp8e4m3⟩
  | .hbm, ⟨1, _⟩ => ⟨S2x56x1024x4, .i8⟩
  | .hbm, ⟨2, _⟩ => ⟨S2x8x1024x128, .fp8e4m3⟩
  | .hbm, ⟨3, _⟩ => ⟨S2x8x1024x4, .i8⟩
  | .hbm, ⟨4, _⟩ => ⟨S2x8x128x1024, .fp8e4m3⟩
  | .hbm, ⟨5, _⟩ => ⟨S2x8x128x32, .i8⟩
  | .hbm, ⟨6, _⟩ => ⟨S2x56x1024x128, .bf16⟩
  | .local _ .vmem, ⟨0, _⟩ => ⟨S2x56x1024x128, .fp8e4m3⟩
  | .local _ .vmem, ⟨1, _⟩ => ⟨S2x56x1024x4, .i8⟩
  | .local _ .vmem, ⟨2, _⟩ => ⟨S2x8x1024x128, .fp8e4m3⟩
  | .local _ .vmem, ⟨3, _⟩ => ⟨S2x8x1024x4, .i8⟩
  | .local _ .vmem, ⟨4, _⟩ => ⟨S2x8x128x1024, .fp8e4m3⟩
  | .local _ .vmem, ⟨5, _⟩ => ⟨S2x8x128x32, .i8⟩
  | .local _ .vmem, ⟨6, _⟩ => ⟨S2x56x1024x128, .bf16⟩
  | _, _ => ⟨S2x56x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_e4m3_max" => some ((1 / 448 : ℝ) : EReal)
  | "ln2" => some ((Real.log 2 : ℝ) : EReal)
  | "score_scale" => some (((Real.sqrt 128)⁻¹ : ℝ) : EReal)
  | _ => none

abbrev grid0 : Pipeline.Grid := .none

abbrev stage0_0 : Fin 1 → Memref sig .tc .vmem S2x56x1024x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x56x1024x4 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x1024x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x1024x4 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x128x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128x32 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x56x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Block.lean ====
/- What the kernel's body computes, as functions of vectors. One grid point holds seven query heads of 1024 rows, cut into
   four blocks of 256 query rows; block `i` attends to the key groups `0 … i` of 256 keys each. The definitions here
   repeat the body's operations, at any floats; `Pieces.lean` shows that the body stores exactly these. -/
module

public import proofs.«01_k».proof.Proof.Gen.KernelIdeal
public import Idealize.ShloMosaic.Lib.Pipeline.Value

@[expose] public section

noncomputable section

namespace Cert.KernelIdeal.Block

open Cert.KernelIdeal Cert.KernelIdeal.Gen Idealize.ShloMosaic Idealize.ShloMosaic.TcCoe

variable {F : FTy → Type} [FloatOps F] [Named F]

/-! ## Integer helpers: division and remainder rounded down, and the key order inside a group -/

/-- `x // c` rounded down, element by element. -/
def floorDiv {s : Shape} (x : IVec s 32) (c : BitVec 32) : IVec s 32 :=
  select
    (andi
      (cmpi .ne (subi (extui 32 (cmpi .sgt x (broadcast s 0#32)) natLt_1_32) (extui 32 (cmpi .slt x (broadcast s 0#32)) natLt_1_32))
        (broadcast s (Scalar.subi (Scalar.extui (Scalar.cmpi .sgt c 0#32)) (Scalar.extui (Scalar.cmpi .slt c 0#32)))))
      (cmpi .ne (remsi x (broadcast s c)) (broadcast s 0#32)))
    (subi (divsi x (broadcast s c)) (broadcast s 1#32)) (divsi x (broadcast s c))

/-- `x % 8` with the sign of the divisor, element by element. -/
def floorRem8 (x : IVec S256x256 32) : IVec S256x256 32 :=
  have c : BitVec 32 := Scalar.select (Scalar.cmpi .eq 8#32 0#32) 1#32 8#32
  have r : IVec S256x256 32 := remsi x (broadcast S256x256 c)
  select
    (andi
      (xori (cmpi .slt r (broadcast S256x256 0#32))
        (broadcastTo S256x256 (broadcast S256x256 (Scalar.cmpi .slt c 0#32)) broadcasts_S256x256_S256x256))
      (cmpi .ne r (broadcast S256x256 0#32)))
    (addi r (broadcast S256x256 c)) r

/-- The key at position `x` of a reordered group: `32 * (x % 8) + x // 8`. -/
def keyAt (x : IVec S256x256 32) : IVec S256x256 32 :=
  addi (muli (broadcast S256x256 32#32) (floorRem8 x)) (floorDiv x 8#32)

def rowIx : IVec S256x256 32 := iota .tc S256x256 32 [0] iota_S256x256_d0_w32
def colIx : IVec S256x256 32 := iota .tc S256x256 32 [1] iota_S256x256_d1_w32

/-- The 0/1 matrix of a comparison. -/
def onehot {s : Shape} (b : IVec s 1) : FVec F s .bf16 :=
  truncf .bf16 (select b (broadcast s (Scalar.ofBits .f32 0x3F800000#32 : F .f32)) (broadcast s (Scalar.ofBits .f32 0x00000000#32 : F .f32)))
    bitsLt_bf16_f32

def permRows : FVec F S256x256 .bf16 := onehot (cmpi .eq colIx (keyAt rowIx))
def permCols : FVec F S256x256 .bf16 := onehot (cmpi .eq rowIx (keyAt colIx))

/-- In the diagonal group, position `row` holds a key no later than query `col`. -/
def visible : IVec S256x256 1 := cmpi .sle (keyAt rowIx) colIx

/-! ## The dequantised operands -/

/-- The power of two that a scale byte stands for, read as a float's exponent field. -/
def pow2 {s : Shape} (x : IVec s 8) : FVec F s .bf16 :=
  truncf .bf16 (bitcastToFloat .f32 (shli (extui 32 x natLt_8_32) (broadcast s 23#32))) bitsLt_bf16_f32

/-- Which of the four scales of a row a lane of the head dimension takes. -/
def laneBlk : FVec F S4x128 .bf16 :=
  onehot (cmpi .eq (floorDiv (iota .tc S4x128 32 [1] iota_S4x128_d1_w32) 32#32) (iota .tc S4x128 32 [0] iota_S4x128_d0_w32))

/-- Which of the thirty-two scales of a row a key takes. -/
def keyBlk : FVec F S32x1024 .bf16 :=
  onehot (cmpi .eq (floorDiv (iota .tc S32x1024 32 [1] iota_S32x1024_d1_w32) 32#32) (iota .tc S32x1024 32 [0] iota_S32x1024_d0_w32))

/-- The keys of a grid point. -/
def kDeq (y2 : Vec F S1x1x1024x128 .fp8e4m3) (y3 : Vec F S1x1x1024x4 .i8) : FVec F S1024x128 .bf16 :=
  mulf (extf .bf16 (shapeCast S1024x128 y2 shapeCasts_S1x1x1024x128_S1024x128 : FVec F S1024x128 .fp8e4m3) bitsLt_fp8e4m3_bf16)
    (truncf .bf16 (matmul dot_S1024x4_S4x128_S1024x128_1_0_0_1_n_n none
      (pow2 (shapeCast S1024x4 y3 shapeCasts_S1x1x1024x4_S1024x4))
      laneBlk (constant S1024x128 .f32 0x00000000#32)) bitsLt_bf16_f32)

/-- The values of a grid point, transposed: rows are the head dimension. -/
def vDeq (y4 : Vec F S1x1x128x1024 .fp8e4m3) (y5 : Vec F S1x1x128x32 .i8) : FVec F S128x1024 .bf16 :=
  mulf (extf .bf16 (shapeCast S128x1024 y4 shapeCasts_S1x1x128x1024_S128x1024 : FVec F S128x1024 .fp8e4m3) bitsLt_fp8e4m3_bf16)
    (truncf .bf16 (matmul dot_S128x32_S32x1024_S128x1024_1_0_0_1_n_n none
      (pow2 (shapeCast S128x32 y5 shapeCasts_S1x1x128x32_S128x32))
      keyBlk (constant S128x1024 .f32 0x00000000#32)) bitsLt_bf16_f32)

/-- A block of 256 query rows. -/
def qDeq (y0 : Vec F S1x1x256x128 .fp8e4m3) (y1 : Vec F S1x1x256x4 .i8) : FVec F S256x128 .bf16 :=
  mulf (extf .bf16 (shapeCast S256x128 y0 shapeCasts_S1x1x256x128_S256x128 : FVec F S256x128 .fp8e4m3) bitsLt_fp8e4m3_bf16)
    (truncf .bf16 (matmul dot_S256x4_S4x128_S256x128_1_0_0_1_n_n none
      (pow2 (shapeCast S256x4 y1 shapeCasts_S1x1x256x4_S256x4)) laneBlk (constant S256x128 .f32 0x00000000#32)) bitsLt_bf16_f32)

/-- Key group `t`, its keys reordered. -/
def kp (k : FVec F S1024x128 .bf16) (t : Fin 4) : FVec F S256x128 .bf16 :=
  have g (x : FVec F S256x128 .bf16) : FVec F S256x128 .bf16 :=
    shapeCast S256x128 (truncf .bf16 (matmul dot_S256x256_S256x128_S256x128_1_0_0_1_n_n none permRows x (constant S256x128 .f32 0x00000000#32)) bitsLt_bf16_f32) shapeCasts_S256x128_S256x128
  match t with
  | 0 => g (extractStridedSlice S256x128 ![0, 0] k slices_S1024x128_o0_0_S256x128)
  | 1 => g (extractStridedSlice S256x128 ![256, 0] k slices_S1024x128_o256_0_S256x128)
  | 2 => g (extractStridedSlice S256x128 ![512, 0] k slices_S1024x128_o512_0_S256x128)
  | 3 => g (extractStridedSlice S256x128 ![768, 0] k slices_S1024x128_o768_0_S256x128)

/-- The values of key group `t`, reordered alike. -/
def vp (v : FVec F S128x1024 .bf16) (t : Fin 4) : FVec F S128x256 .bf16 :=
  have g (x : FVec F S128x256 .bf16) : FVec F S128x256 .bf16 :=
    shapeCast S128x256 (truncf .bf16 (matmul dot_S128x256_S256x256_S128x256_1_0_0_1_n_n none x permCols (constant S128x256 .f32 0x00000000#32)) bitsLt_bf16_f32) shapeCasts_S128x256_S128x256
  match t with
  | 0 => g (extractStridedSlice S128x256 ![0, 0] v slices_S128x1024_o0_0_S128x256)
  | 1 => g (extractStridedSlice S128x256 ![0, 256] v slices_S128x1024_o0_256_S128x256)
  | 2 => g (extractStridedSlice S128x256 ![0, 512] v slices_S128x1024_o0_512_S128x256)
  | 3 => g (extractStridedSlice S128x256 ![0, 768] v slices_S128x1024_o0_768_S128x256)

/-! ## One block of queries -/

def scale {s : Shape} : FVec F s .f32 := broadcast s (Named.named κ "score_scale_log2e" 0x3E0293EE#32 : F .f32)

/-- The scores of key group `t` for the queries of block `i`, keys down the rows. -/
def score (k : FVec F S1024x128 .bf16) (q : FVec F S256x128 .bf16) (i t : Fin 4) : FVec F S256x256 .f32 :=
  have s : FVec F S256x256 .f32 := matmul dot_S256x128_S256x128_S256x256_1_1_0_0_n_n none (kp k t) q (constant S256x256 .f32 0x00000000#32)
  if t = i then select visible s (broadcast S256x256 (Scalar.ofBits .f32 0xFF800000#32 : F .f32)) else s

/-- The largest score of each of the eight 32-key blocks of a group: block `r` is the rows `r`, `r + 8`, … of the group. -/
def blkMax (s : FVec F S256x256 .f32) : FVec F S8x256 .f32 :=
  multiReduction .maximumf [0] S8x256 (shapeCast S32x8x256 s shapeCasts_S256x256_S32x8x256 : FVec F S32x8x256 .f32) 0xFF800000#32 reduces_S32x8x256_S8x256 (.inl rfl) rfl

/-- The largest score per query over the groups `0 … n`, times the scale. -/
def rowMax (f : Nat → FVec F S8x256 .f32) (n : Nat) : FVec F S1x256 .f32 :=
  mulf (shapeCast S1x256 (multiReduction .maximumf [0] S256 (n.rec (f 0) fun m a => maximumf a (f (m + 1)) : FVec F S8x256 .f32) 0xFF800000#32 reduces_S8x256_S256 (.inl rfl) rfl : FVec F S256 .f32) shapeCasts_S256_S1x256) scale

/-- A group stored and loaded again. -/
def stored (s : FVec F S256x256 .f32) : FVec F S256x256 .f32 :=
  shapeCast S256x256 (shapeCast S1x256x256 s shapeCasts_S256x256_S1x256x256 : FVec F S1x256x256 .f32) shapeCasts_S1x256x256_S256x256

/-- The exponentials of a group, relative to the row maximum. -/
def expo (s : FVec F S256x256 .f32) (m : FVec F S1x256 .f32) : FVec F S256x256 .f32 :=
  exp2 (subf (mulf (stored s) scale) (broadcastTo S256x256 m broadcasts_S1x256_S256x256))

def blkSum (e : FVec F S256x256 .f32) : FVec F S8x256 .f32 :=
  multiReduction .add [0] S8x256 (shapeCast S32x8x256 e shapeCasts_S256x256_S32x8x256 : FVec F S32x8x256 .f32) 0x00000000#32 reduces_S32x8x256_S8x256 (.inl rfl) rfl

/-- One over the sum of the exponentials of the groups `0 … n`. -/
def invTotal (f : Nat → FVec F S256x256 .f32) (n : Nat) : FVec F S1x256 .f32 :=
  divf (broadcast S1x256 (Scalar.ofBits .f32 0x3F800000#32 : F .f32))
    (shapeCast S1x256 (multiReduction .add [0] S256
      ((n + 1).rec (broadcast S8x256 (Scalar.ofBits .f32 0x00000000#32 : F .f32)) fun m a => addf a (blkSum (f m)) : FVec F S8x256 .f32)
      0x00000000#32 reduces_S8x256_S256 (.inl rfl) rfl : FVec F S256 .f32) shapeCasts_S256_S1x256)

/-- The largest probability of each block. -/
def pMax (b : FVec F S8x256 .f32) (m inv : FVec F S1x256 .f32) : FVec F S8x256 .f32 :=
  mulf (exp2 (subf (mulf b scale) (broadcastTo S8x256 m broadcasts_S1x256_S8x256))) (broadcastTo S8x256 inv broadcasts_S1x256_S8x256)

/-- The exponent field of the block's scale, less one: how many powers of two the largest probability over 448 reaches. -/
def expField (a : FVec F S8x256 .f32) : IVec S8x256 32 :=
  have x : FVec F S8x256 .f32 := mulf a (broadcast S8x256 (Named.named κ "inv_e4m3_max" 0x3B124925#32 : F .f32))
  have p : FVec F S255x8x256 .f32 :=
    bitcastToFloat .f32 (shli (addi (iota .tc S255x8x256 32 [0] iota_S255x8x256_d0_w32) (broadcast S255x8x256 1#32)) (broadcast S255x8x256 23#32))
  have y : FVec F S255x8x256 .f32 := broadcastTo S255x8x256 (shapeCast S1x8x256 x shapeCasts_S8x256_S1x8x256 : FVec F S1x8x256 .f32) broadcasts_S1x8x256_S255x8x256
  select (cmpf .oeq a (broadcast S8x256 (Scalar.ofBits .f32 0x00000000#32 : F .f32))) (broadcast S8x256 126#32)
    (multiReductionI .add [0] S8x256 (extui 32 (cmpf .oge y p) natLt_1_32) 0#32 reduces_S255x8x256_S8x256 rfl)

/-- The power of two of an exponent field. -/
def pow2f (x : IVec S8x256 32) : FVec F S8x256 .f32 := bitcastToFloat .f32 (shli x (broadcast S8x256 23#32))

def cat2 (a b : FVec F S8x256 .f32) : FVec F S16x256 .f32 :=
  concatenate S16x256 0 [⟨S8x256, a⟩, ⟨S8x256, b⟩] concatenates_S8x256_S8x256_S16x256_d0

/-- The quantised probabilities of a group: e4m3 codes times the block's scale. -/
def quant (e : FVec F S256x256 .f32) (z : IVec S8x256 32) (inv : FVec F S1x256 .f32) : FVec F S256x256 .bf16 :=
  have mult : FVec F S8x256 .f32 := mulf (pow2f (subi (broadcast S8x256 253#32) z)) (broadcastTo S8x256 inv broadcasts_S1x256_S8x256)
  have ps : FVec F S8x256 .f32 := pow2f (addi z (broadcast S8x256 1#32))
  have y : FVec F S256x256 .f32 := shapeCast S256x256
    (mulf (shapeCast S32x8x256 (stored e) shapeCasts_S256x256_S32x8x256)
      (broadcastTo S32x8x256 (shapeCast S1x8x256 mult shapeCasts_S8x256_S1x8x256 : FVec F S1x8x256 .f32) broadcasts_S1x8x256_S32x8x256)) shapeCasts_S32x8x256_S256x256
  have codes : FVec F S256x256 .fp8e4m3 := truncf .fp8e4m3
    (minimumf (broadcast S256x256 (Scalar.ofBits .f32 0x43E00000#32 : F .f32)) (maximumf (broadcast S256x256 (Scalar.ofBits .f32 0xC3E00000#32 : F .f32)) y))
    bitsLt_fp8e4m3_f32
  shapeCast S256x256
    (mulf (shapeCast S16x16x256 (extf .bf16 codes bitsLt_fp8e4m3_bf16) shapeCasts_S256x256_S16x16x256)
      (broadcastTo S16x16x256 (shapeCast S1x16x256 (truncf .bf16 (cat2 ps ps) bitsLt_bf16_f32) shapeCasts_S16x256_S1x16x256 : FVec F S1x16x256 .bf16) broadcasts_S1x16x256_S16x16x256))
    shapeCasts_S16x16x256_S256x256

/-- What query block `i` stores, of the keys, the values and the block's queries. -/
def out (k : FVec F S1024x128 .bf16) (v : FVec F S128x1024 .bf16) (q : FVec F S256x128 .bf16) (i : Fin 4) : FVec F S1x1x256x128 .bf16 :=
  have s (t : Nat) : FVec F S256x256 .f32 := score k q i (Fin.ofNat 4 t)
  have m : FVec F S1x256 .f32 := rowMax (fun t => blkMax (s t)) i.val
  have inv : FVec F S1x256 .f32 := invTotal (fun t => expo (s t) m) i.val
  have part (t : Nat) : FVec F S128x256 .f32 :=
    matmul dot_S128x256_S256x256_S128x256_1_0_0_1_n_n none (vp v (Fin.ofNat 4 t))
      (quant (expo (s t) m) (expField (pMax (blkMax (s t)) m inv)) inv) (constant S128x256 .f32 0x00000000#32)
  have acc : FVec F S128x256 .f32 :=
    (i.val + 1).rec (broadcast S128x256 (Scalar.ofBits .f32 0x00000000#32 : F .f32)) fun t a => addf a (part t)
  shapeCast S1x1x256x128 (truncf .bf16 (transpose S256x128 [1, 0] acc transposes_S128x256_p1_0_S256x128) bitsLt_bf16_f32) shapeCasts_S256x128_S1x1x256x128

/-! ## The twenty-eight stores of a grid point -/

theorem inbQ (h : Fin 7) (i : Fin 4) : ∀ a, (![0, h.val, 256 * i.val, 0] : Fin 4 → Nat) a + S1x1x256x128.size a ≤ S1x7x1024x128.size a := by
  revert h i; decide
theorem inbS (h : Fin 7) (i : Fin 4) : ∀ a, (![0, h.val, 256 * i.val, 0] : Fin 4 → Nat) a + S1x1x256x4.size a ≤ S1x7x1024x4.size a := by
  revert h i; decide

/-- Head `h`, query block `i`: the rectangle stored through and what is stored. -/
def piece (x0 : Vec F S1x7x1024x128 .fp8e4m3) (x1 : Vec F S1x7x1024x4 .i8) (x2 : Vec F S1x1x1024x128 .fp8e4m3) (x3 : Vec F S1x1x1024x4 .i8)
    (x4 : Vec F S1x1x128x1024 .fp8e4m3) (x5 : Vec F S1x1x128x32 .i8) (p : Fin 7 × Fin 4) : View.Piece (Elt F) S1x7x1024x128 .bf16 :=
  ⟨Rect.unit (s := S1x7x1024x128) ![0, p.1.val, 256 * p.2.val, 0] S1x1x256x128.size (inbQ p.1 p.2),
    out
      (kDeq (View.ld x2 (Rect.unit (s := S1x1x1024x128) ![0, 0, 0, 0] S1x1x1024x128.size inb_S1x1x1024x128_S1x1x1024x128_0_0_0_0))
        (View.ld x3 (Rect.unit (s := S1x1x1024x4) ![0, 0, 0, 0] S1x1x1024x4.size inb_S1x1x1024x4_S1x1x1024x4_0_0_0_0)))
      (vDeq (View.ld x4 (Rect.unit (s := S1x1x128x1024) ![0, 0, 0, 0] S1x1x128x1024.size inb_S1x1x128x1024_S1x1x128x1024_0_0_0_0))
        (View.ld x5 (Rect.unit (s := S1x1x128x32) ![0, 0, 0, 0] S1x1x128x32.size inb_S1x1x128x32_S1x1x128x32_0_0_0_0)))
      (qDeq (View.ld x0 (Rect.unit (s := S1x7x1024x128) ![0, p.1.val, 256 * p.2.val, 0] S1x1x256x128.size (inbQ p.1 p.2)))
        (View.ld x1 (Rect.unit (s := S1x7x1024x4) ![0, p.1.val, 256 * p.2.val, 0] S1x1x256x4.size (inbS p.1 p.2)))) p.2⟩

/-- Heads and query blocks, the last stored first. -/
def order : List (Fin 7 × Fin 4) :=
  [(6, 3), (6, 2), (6, 1), (6, 0), (5, 3), (5, 2), (5, 1), (5, 0), (4, 3), (4, 2), (4, 1), (4, 0), (3, 3), (3, 2), (3, 1), (3, 0),
    (2, 3), (2, 2), (2, 1), (2, 0), (1, 3), (1, 2), (1, 1), (1, 0), (0, 3), (0, 2), (0, 1), (0, 0)]

end Cert.KernelIdeal.Block

end
-- ==== Proof.Soft.lean ====
/- The mathematics of one query, over the extended reals: the probabilities of its scores, and that quantising them block by
   block changes nothing where the codes are not rounded. A key's probability is 0 when the largest score is infinite. -/
module

public import Idealize.ShloMosaic.PureOps.Ideal

@[expose] public section

noncomputable section

namespace Cert.Soft

open Idealize.ShloMosaic

/-- One over the square root of the head dimension. -/
def root : ℝ := (Real.sqrt 128)⁻¹

/-- The same times the base-2 logarithm of e. -/
def root2 : ℝ := (Real.sqrt 128)⁻¹ * (Real.log 2)⁻¹

theorem root_pos : 0 < root := inv_pos.mpr (Real.sqrt_pos.mpr (by norm_num))
theorem log2_pos : 0 < Real.log 2 := Real.log_pos (by norm_num)
theorem root2_pos : 0 < root2 := mul_pos root_pos (inv_pos.mpr log2_pos)

/-! ## Exponentials -/

theorem exp2_coe (r : ℝ) : Ideal.exp2 (r : EReal) = (((2 : ℝ) ^ r : ℝ) : EReal) := rfl
theorem exp2_bot : Ideal.exp2 ⊥ = 0 := rfl

/-- The exponential to base e of a scaled difference is that to base 2 with the scale times log₂ e. -/
theorem exp_eq_exp2 (x y : EReal) :
    Ideal.exp (x * (root : EReal) - y * (root : EReal)) = Ideal.exp2 (x * (root2 : EReal) - y * (root2 : EReal)) := by
  have h1 := root_pos
  have h2 := root2_pos
  induction x with
  | bot => rw [EReal.bot_mul_coe_of_pos h1, EReal.bot_mul_coe_of_pos h2, sub_eq_add_neg, sub_eq_add_neg, EReal.bot_add, EReal.bot_add]; rfl
  | top =>
    rw [EReal.top_mul_coe_of_pos h1, EReal.top_mul_coe_of_pos h2]
    induction y with
    | bot => rw [EReal.bot_mul_coe_of_pos h1, EReal.bot_mul_coe_of_pos h2]; rfl
    | top => rw [EReal.top_mul_coe_of_pos h1, EReal.top_mul_coe_of_pos h2]; rfl
    | coe y => rfl
  | coe x =>
    induction y with
    | bot => rw [EReal.bot_mul_coe_of_pos h1, EReal.bot_mul_coe_of_pos h2]; rfl
    | top => rw [EReal.top_mul_coe_of_pos h1, EReal.top_mul_coe_of_pos h2]; rfl
    | coe y =>
      rw [← EReal.coe_mul, ← EReal.coe_mul, ← EReal.coe_sub, ← EReal.coe_mul, ← EReal.coe_mul, ← EReal.coe_sub, exp2_coe,
        Real.rpow_def_of_pos (by norm_num)]
      refine congrArg (fun r : ℝ => ((Real.exp r : ℝ) : EReal)) ?_
      have := log2_pos.ne'
      simp only [root, root2]
      field_simp

theorem exp2_mono : Monotone Ideal.exp2 := by
  intro x y h
  induction x with
  | bot =>
    induction y with
    | bot => exact le_rfl
    | top => exact le_top
    | coe y => exact EReal.coe_nonneg.mpr (Real.rpow_nonneg (by norm_num) _)
  | top => rw [top_le_iff.mp h]
  | coe x =>
    induction y with
    | bot => exact absurd h (by simp)
    | top => exact le_top
    | coe y =>
      rw [exp2_coe, exp2_coe, EReal.coe_le_coe_iff]
      exact Real.rpow_le_rpow_of_exponent_le (by norm_num) (EReal.coe_le_coe_iff.mp h)

/-! ## The probabilities of a row of scores -/

variable {ι : Type} [Fintype ι]

/-- The exponential of a score relative to the largest. -/
def ex (m x : EReal) : EReal := Ideal.exp2 (x * (root2 : EReal) - m * (root2 : EReal))

def top (s : ι → EReal) : EReal := ⨆ k, s k

def total (s : ι → EReal) : EReal := ∑ k, ex (top s) (s k)

/-- The probability of a key whose score is `x`. -/
def prob (s : ι → EReal) (x : EReal) : EReal :=
  if top s = ⊤ ∨ top s = ⊥ then 0 else Ideal.div (ex (top s) x) (total s)

theorem ex_mono (m : EReal) : Monotone (ex m) := by
  intro x y h
  refine exp2_mono (EReal.sub_le_sub (mul_le_mul_of_nonneg_right h (EReal.coe_nonneg.mpr root2_pos.le)) le_rfl)

theorem ex_top (x : EReal) : ex ⊤ x = 0 := by
  unfold ex
  rw [EReal.top_mul_coe_of_pos root2_pos]
  induction x * (root2 : EReal) with
  | bot => rfl
  | top => rfl
  | coe x => rfl

theorem ex_bot (m : EReal) : ex m ⊥ = 0 := by
  unfold ex
  rw [EReal.bot_mul_coe_of_pos root2_pos, sub_eq_add_neg, EReal.bot_add]; rfl

/-- Below an infinite largest score every exponential is 0. -/
theorem ex_of_inf {m x : EReal} (h : m = ⊤ ∨ m = ⊥) (hx : x ≤ m) : ex m x = 0 := by
  rcases h with rfl | rfl
  · exact ex_top x
  · rw [le_bot_iff.mp hx]; exact ex_bot ⊥

theorem ex_coe (m : ℝ) {x : EReal} (hx : x ≤ m) : ∃ r : ℝ, ex m x = (r : EReal) ∧ 0 ≤ r := by
  induction x with
  | bot => exact ⟨0, ex_bot _, le_rfl⟩
  | top => exact absurd hx (by simp)
  | coe x => exact ⟨(2 : ℝ) ^ (x * root2 - m * root2), by unfold ex; rw [← EReal.coe_mul, ← EReal.coe_mul, ← EReal.coe_sub, exp2_coe], Real.rpow_nonneg (by norm_num) _⟩

theorem ex_self (m : ℝ) : ex m m = 1 := by
  unfold ex; rw [← EReal.coe_mul, ← EReal.coe_sub, sub_self, exp2_coe, Real.rpow_zero]; rfl

theorem coe_sum (r : ι → ℝ) : ((∑ k, r k : ℝ) : EReal) = ∑ k, (r k : EReal) :=
  map_sum (⟨⟨Real.toEReal, EReal.coe_zero⟩, EReal.coe_add⟩ : ℝ →+ EReal) r Finset.univ

/-- With a finite largest score the total is a positive real, and no exponential exceeds it. -/
theorem total_coe [Nonempty ι] (s : ι → EReal) (m : ℝ) (hm : top s = m) :
    ∃ T : ℝ, 0 < T ∧ total s = (T : EReal) ∧ ∀ x, x ≤ top s → ex m x ≤ (T : EReal) := by
  have hs (k) : s k ≤ (m : EReal) := hm ▸ le_iSup s k
  choose r hr h0 using fun k => ex_coe m (hs k)
  obtain ⟨k₀, hk₀⟩ : ∃ k, s k = top s := exists_eq_ciSup_of_finite
  have hT : total s = ((∑ k, r k : ℝ) : EReal) := by
    unfold total
    rw [hm, coe_sum]
    exact Finset.sum_congr rfl fun k _ => hr k
  have h1 : r k₀ = 1 := by
    have := hr k₀
    rw [hk₀, hm, ex_self] at this
    exact_mod_cast this.symm
  have h2 : r k₀ ≤ ∑ k, r k := Finset.single_le_sum (fun k _ => h0 k) (Finset.mem_univ k₀)
  refine ⟨∑ k, r k, by linarith, hT, fun x hx => (ex_mono m (hx.trans hm.le)).trans ?_⟩
  rw [ex_self]
  exact_mod_cast h1 ▸ h2

theorem inf_or_coe (m : EReal) : (m = ⊤ ∨ m = ⊥) ∨ ∃ r : ℝ, m = r := by
  induction m with
  | bot => exact .inl (.inr rfl)
  | top => exact .inl (.inl rfl)
  | coe r => exact .inr ⟨r, rfl⟩

theorem total_of_inf (s : ι → EReal) (h : top s = ⊤ ∨ top s = ⊥) : total s = 0 :=
  Finset.sum_eq_zero fun k _ => ex_of_inf h (le_iSup s k)

theorem div_coe (x y : ℝ) (hy : 0 < y) : Ideal.div x y = ((x / y : ℝ) : EReal) := by
  unfold Ideal.div
  rw [if_neg (by exact_mod_cast hy.ne'), ← EReal.coe_inv, ← EReal.coe_mul, div_eq_mul_inv]

theorem max_coe (x y : ℝ) : max (x : EReal) y = ((max x y : ℝ) : EReal) := (EReal.coe_strictMono.monotone.map_max).symm
theorem min_coe (x y : ℝ) : min (x : EReal) y = ((min x y : ℝ) : EReal) := (EReal.coe_strictMono.monotone.map_min).symm

theorem coe_448 : (448 : EReal) = ((448 : ℝ) : EReal) := rfl

theorem clip_zero : min (448 : EReal) (max (-448) 0) = 0 := by
  rw [coe_448, ← EReal.coe_neg, ← EReal.coe_zero, max_coe, min_coe]
  norm_num

/-- A code clipped to ±448, times its scale, is what was coded, when that does not exceed 448 scales. -/
theorem code_eq (p w : ℝ) (hp : 0 ≤ p) (hw : 0 < w) (h : p ≤ 448 * w) (y : EReal) (hy : y = ((p * w⁻¹ : ℝ) : EReal)) :
    min (448 : EReal) (max (-448) y) * (w : EReal) = (p : EReal) := by
  have h0 : 0 ≤ p * w⁻¹ := mul_nonneg hp (inv_nonneg.mpr hw.le)
  have h1 : p * w⁻¹ ≤ 448 := by rw [← div_eq_mul_inv, div_le_iff₀ hw]; exact h
  have e1 : min (448 : EReal) (max (-448) y) = y := by
    rw [hy, coe_448, ← EReal.coe_neg, max_coe, min_coe, max_eq_right (by linarith), min_eq_right h1]
  rw [e1, hy, ← EReal.coe_mul, mul_assoc, inv_mul_cancel₀ hw.ne', mul_one]

/-! ## What the kernel stores for a key -/

/-- The largest probability of a block whose largest score is `b`. -/
def blockProb (s : ι → EReal) (b : EReal) : EReal := ex (top s) b * Ideal.div 1 (total s)

/-- A key of score `x` in a block of largest score `b`, with `2^(z-126)` for the block's scale: the quantised probability
    times the scale is the probability. -/
theorem kernel_prob [Nonempty ι] (s : ι → EReal) (b x : EReal) (hb : b ≤ top s) (hx : x ≤ b) (z : ℤ)
    (hz : blockProb s b ≠ 0 → blockProb s b * ((1 / 448 : ℝ) : EReal) < (((2 : ℝ) ^ (z - 126) : ℝ) : EReal)) :
    min (448 : EReal) (max (-448) (ex (top s) x * ((((2 : ℝ) ^ (126 - z) : ℝ) : EReal) * Ideal.div 1 (total s))))
        * (((2 : ℝ) ^ (z - 126) : ℝ) : EReal) = prob s x := by
  rcases inf_or_coe (top s) with h | ⟨m, hm⟩
  · rw [prob, if_pos h, ex_of_inf h (hx.trans hb), zero_mul]
    rw [clip_zero, zero_mul]
  · obtain ⟨T, hT, hTe, -⟩ := total_coe s m hm
    obtain ⟨rb, hrb, hb0⟩ := ex_coe m (hm ▸ hb)
    obtain ⟨rx, hrx, hx0⟩ := ex_coe m (hm ▸ hx.trans hb)
    have hle : rx ≤ rb := by
      have := ex_mono m hx
      rw [hrb, hrx] at this
      exact_mod_cast this
    have h1 : Ideal.div 1 (T : EReal) = ((1 / T : ℝ) : EReal) := by exact_mod_cast div_coe 1 T hT
    rw [prob, if_neg (by rw [hm]; simp), hTe, hm, hrx, h1, div_coe _ _ hT]
    unfold blockProb at hz
    rw [hTe, hm, hrb, h1] at hz
    have hw : (0 : ℝ) < (2 : ℝ) ^ (z - 126) := zpow_pos (by norm_num) _
    refine code_eq (rx / T) _ (div_nonneg hx0 hT.le) hw ?_ _ ?_
    · rcases hb0.eq_or_lt with h0 | h0
      · have : rx = 0 := le_antisymm (h0 ▸ hle) hx0
        rw [this, zero_div]; positivity
      · have h2 := hz (by rw [← EReal.coe_mul]; exact_mod_cast (mul_pos h0 (one_div_pos.mpr hT)).ne')
        rw [← EReal.coe_mul, ← EReal.coe_mul, EReal.coe_lt_coe_iff] at h2
        have h3 : rx / T ≤ rb * (1 / T) := by rw [div_eq_mul_one_div]; exact mul_le_mul_of_nonneg_right hle (one_div_pos.mpr hT).le
        linarith
    · rw [← EReal.coe_mul, ← EReal.coe_mul, show (126 - z : ℤ) = -(z - 126) by ring, zpow_neg]
      refine congrArg (fun r : ℝ => (r : EReal)) ?_
      ring

/-! ## What the reference stores for a key -/

/-- The exponent of a block's scale, of its largest probability `a`. -/
def exponent (a : EReal) : EReal :=
  if a = 0 then 0 else Ideal.liftRound Int.floor (Ideal.div (Ideal.log (a * ((1 / 448 : ℝ) : EReal))) ((Real.log 2 : ℝ) : EReal)) + 1

theorem exponent_bot : exponent ⊥ = ⊥ := by
  unfold exponent
  rw [if_neg (by simp), EReal.bot_mul_coe_of_pos (by norm_num)]
  show Ideal.liftRound Int.floor (Ideal.div ⊥ _) + 1 = ⊥
  rw [Ideal.div, if_neg (by exact_mod_cast log2_pos.ne'), ← EReal.coe_inv, EReal.bot_mul_coe_of_pos (inv_pos.mpr log2_pos)]
  exact EReal.bot_add _

/-- The exponent of a positive real is an integer `n`, and the real is below 448 times `2^n`. -/
theorem exponent_coe (a : ℝ) (ha : 0 ≤ a) : ∃ n : ℤ, exponent a = ((n : ℝ) : EReal) ∧ a ≤ 448 * (2 : ℝ) ^ n := by
  rcases ha.eq_or_lt with rfl | h
  · exact ⟨0, by simp [exponent], by norm_num⟩
  · have h4 : 0 < a * (1 / 448) := by positivity
    refine ⟨⌊Real.log (a * (1 / 448)) / Real.log 2⌋ + 1, ?_, ?_⟩
    · unfold exponent
      rw [if_neg (by exact_mod_cast h.ne'), ← EReal.coe_mul]
      show Ideal.liftRound Int.floor (Ideal.div (if a * (1 / 448) ≤ 0 then ⊥ else ((Real.log (a * (1 / 448)) : ℝ) : EReal)) _) + 1 = _
      rw [if_neg (not_le.mpr h4), div_coe _ _ log2_pos]
      show ((⌊Real.log (a * (1 / 448)) / Real.log 2⌋ : ℝ) : EReal) + 1 = _
      push_cast
      rfl
    · have h5 := Int.lt_floor_add_one (Real.log (a * (1 / 448)) / Real.log 2)
      rw [div_lt_iff₀ log2_pos] at h5
      have h6 : a * (1 / 448) < (2 : ℝ) ^ (⌊Real.log (a * (1 / 448)) / Real.log 2⌋ + 1) := by
        rw [← Real.rpow_intCast, ← Real.log_lt_log_iff h4 (Real.rpow_pos_of_pos (by norm_num) _), Real.log_rpow (by norm_num)]
        push_cast
        exact h5
      linarith

theorem exp2_int (n : ℤ) : Ideal.exp2 ((n : ℝ) : EReal) = (((2 : ℝ) ^ n : ℝ) : EReal) := by
  rw [exp2_coe, Real.rpow_intCast]

/-- A key of score `x` in a block of largest probability `a`: quantised and scaled back it is the probability. -/
theorem reference_prob [Nonempty ι] (s : ι → EReal) {κ : Type} [Finite κ] [Nonempty κ] (u : κ → EReal) (hu : ∀ k, u k ≤ top s) (k : κ) (a : EReal)
    (ha : a = ⨆ j, Ideal.div (ex (top s) (u j)) (total s)) :
    min (448 : EReal) (max (-448) (Ideal.div (ex (top s) (u k)) (total s) * Ideal.exp2 (0 - exponent a))) * Ideal.exp2 (exponent a)
      = prob s (u k) := by
  rcases inf_or_coe (top s) with h | ⟨m, hm⟩
  · have h0 (j) : Ideal.div (ex (top s) (u j)) (total s) = ⊥ := by
      rw [ex_of_inf h (hu j), total_of_inf s h, Ideal.div, if_pos rfl, if_neg (lt_irrefl _)]
    have ha' : a = ⊥ := by rw [ha]; simp only [h0, iSup_const]
    rw [prob, if_pos h, ha', exponent_bot, exp2_bot, mul_zero]
  · obtain ⟨T, hT, hTe, -⟩ := total_coe s m hm
    choose r hr hr0 using fun j => ex_coe m (hm ▸ hu j)
    have hd (j) : Ideal.div (ex (top s) (u j)) (total s) = ((r j / T : ℝ) : EReal) := by rw [hm, hr, hTe, div_coe _ _ hT]
    obtain ⟨j₀, hj₀⟩ : ∃ j, Ideal.div (ex (top s) (u j)) (total s) = ⨆ j, Ideal.div (ex (top s) (u j)) (total s) := exists_eq_ciSup_of_finite
    have hle : r k / T ≤ r j₀ / T := by
      have := le_iSup (fun j => Ideal.div (ex (top s) (u j)) (total s)) k
      rw [← hj₀] at this
      simp only [hd] at this
      exact_mod_cast this
    rw [← ha, hd] at hj₀
    obtain ⟨n, hn, hn'⟩ := exponent_coe (r j₀ / T) (div_nonneg (hr0 _) hT.le)
    rw [prob, if_neg (by rw [hm]; simp), hd, ← hj₀, hn, exp2_int]
    refine code_eq (r k / T) _ (div_nonneg (hr0 _) hT.le) (zpow_pos (by norm_num) _) (hle.trans hn') _ ?_
    rw [show (0 : EReal) - ((n : ℝ) : EReal) = (((-n : ℤ) : ℝ) : EReal) by push_cast; exact zero_sub _, exp2_int, zpow_neg, ← EReal.coe_mul]

/-! ## Scores scaled before the maximum -/

/-- The largest of the scaled scores is the largest score, scaled. -/
theorem top_scale [Nonempty ι] (s : ι → EReal) : (⨆ k, s k * (root : EReal)) = top s * (root : EReal) := by
  have h0 : (0 : EReal) ≤ (root : EReal) := EReal.coe_nonneg.mpr root_pos.le
  obtain ⟨k₀, hk₀⟩ : ∃ k, s k = top s := exists_eq_ciSup_of_finite
  refine le_antisymm (iSup_le fun k => mul_le_mul_of_nonneg_right (le_iSup s k) h0) ?_
  rw [← hk₀]
  exact le_iSup (fun k => s k * (root : EReal)) k₀

/-- The exponential of a scaled score relative to the largest scaled score. -/
theorem exp_scale [Nonempty ι] (s : ι → EReal) (x : EReal) :
    Ideal.exp (x * (root : EReal) - ⨆ k, s k * (root : EReal)) = ex (top s) x := by
  rw [top_scale]; exact exp_eq_exp2 _ _

end Cert.Soft

end
-- ==== Proof.Fields.lean ====
/- Floats read from their bits, counting powers of two, and how the 1024 keys are grouped. -/
module

public import proofs.«01_k».proof.Proof.Soft
public import Idealize.ShloMosaic.Lib.IndicatorCount

@[expose] public section

noncomputable section

namespace Cert.Soft

open Idealize.ShloMosaic

/-! ## Floats from their bits -/

/-- The float whose exponent field is `x`, all other bits 0. -/
def field (x : BitVec 32) : EReal := Ideal.ofBits .f32 (IntOp.shli ArithUnit.vector x 23#32)

theorem zpow_split (n : Nat) : ((2 ^ 23 + 0 : Nat) : ℝ) * (2 : ℝ) ^ ((n : ℤ) - (2 ^ (8 - 1) - 1) - (23 : Nat)) = (2 : ℝ) ^ ((n : ℤ) - 127) := by
  have h : ((n : ℤ) - 127) = ((23 : Nat) : ℤ) + ((n : ℤ) - (2 ^ (8 - 1) - 1) - (23 : Nat)) := by norm_num
  rw [h, zpow_add₀ (by norm_num), zpow_natCast]
  norm_num

theorem field_ofNat (n : Nat) (h1 : 1 ≤ n) (h2 : n ≤ 254) : field (BitVec.ofNat 32 n) = (((2 : ℝ) ^ ((n : ℤ) - 127) : ℝ) : EReal) := by
  have hs : IntOp.shli ArithUnit.vector (BitVec.ofNat 32 n) 23#32 = BitVec.ofNat 32 n <<< (23#32 : BitVec 32) := rfl
  have e1 : (BitVec.ofNat 32 n <<< (23#32 : BitVec 32)).extractLsb' 31 1 = 0#1 :=
    (by decide +kernel : ∀ n : Fin 255, (BitVec.ofNat 32 n.val <<< (23#32 : BitVec 32)).extractLsb' 31 1 = 0#1) ⟨n, by omega⟩
  have e2 : ((BitVec.ofNat 32 n <<< (23#32 : BitVec 32)).extractLsb' 23 8).toNat = n :=
    (by decide +kernel : ∀ n : Fin 255, ((BitVec.ofNat 32 n.val <<< (23#32 : BitVec 32)).extractLsb' 23 8).toNat = n.val) ⟨n, by omega⟩
  have e3 : ((BitVec.ofNat 32 n <<< (23#32 : BitVec 32)).extractLsb' 0 23).toNat = 0 :=
    (by decide +kernel : ∀ n : Fin 255, ((BitVec.ofNat 32 n.val <<< (23#32 : BitVec 32)).extractLsb' 0 23).toNat = 0) ⟨n, by omega⟩
  unfold field
  rw [hs]
  show Ideal.ieee 8 23 (BitVec.ofNat 32 n <<< (23#32 : BitVec 32)) = _
  unfold Ideal.ieee
  simp only [show (8 + 23 : Nat) = 31 from rfl, e1, e2, e3]
  rw [if_neg (by omega), if_neg (by omega), if_neg (by decide), one_mul]
  exact congrArg (fun r : ℝ => (r : EReal)) (zpow_split n)

theorem ofBits_neg_inf : Ideal.ofBits .f32 4286578688#32 = ⊥ := by
  show Ideal.ieee 8 23 (4286578688#32 : BitVec 32) = _
  unfold Ideal.ieee
  rfl

theorem ofBits_448 : Ideal.ofBits .f32 1138753536#32 = (448 : EReal) := by
  show Ideal.ieee 8 23 (1138753536#32 : BitVec 32) = _
  unfold Ideal.ieee
  simp only [show ((1138753536#32 : BitVec 32).extractLsb' 23 8).toNat = 135 from rfl, show ((1138753536#32 : BitVec 32).extractLsb' 0 23).toNat = 6291456 from rfl,
    show (1138753536#32 : BitVec 32).extractLsb' (8 + 23) 1 = 0#1 from rfl]
  rw [if_neg (by decide), if_neg (by decide), coe_448]
  refine congrArg (fun r : ℝ => (r : EReal)) ?_
  norm_num

theorem ofBits_neg_448 : Ideal.ofBits .f32 3286237184#32 = (-448 : EReal) := by
  show Ideal.ieee 8 23 (3286237184#32 : BitVec 32) = _
  unfold Ideal.ieee
  simp only [show ((3286237184#32 : BitVec 32).extractLsb' 23 8).toNat = 135 from rfl, show ((3286237184#32 : BitVec 32).extractLsb' 0 23).toNat = 6291456 from rfl,
    show (3286237184#32 : BitVec 32).extractLsb' (8 + 23) 1 = 1#1 from rfl]
  rw [if_neg (by decide), if_neg (by decide), coe_448, ← EReal.coe_neg]
  refine congrArg (fun r : ℝ => (r : EReal)) ?_
  norm_num

/-- The value of a scale byte that is neither 0 nor 255. -/
theorem field_byte (x : BitVec 8) (h1 : 1 ≤ x.toNat) (h2 : x.toNat ≤ 254) :
    field (x.setWidth 32) = (((2 : ℝ) ^ ((x.toNat : ℤ) - 127) : ℝ) : EReal) := by
  rw [show x.setWidth 32 = BitVec.ofNat 32 x.toNat from BitVec.eq_of_toNat_eq (by simp)]
  exact field_ofNat _ h1 h2

/-! ## Counting powers of two -/

theorem field_255 : field (BitVec.ofNat 32 255) = ⊤ := by
  show Ideal.ieee 8 23 (2139095040#32 : BitVec 32) = _
  unfold Ideal.ieee
  rfl

/-- How many of the powers of two from `2^-126` on do not exceed `y`. -/
def count (y : EReal) : Nat := (Finset.univ.filter fun x : Fin 255 => field (BitVec.ofNat 32 (x.val + 1)) ≤ y).card

theorem one_le_field (x : Fin 255) (h : 126 ≤ x.val) : 1 ≤ field (BitVec.ofNat 32 (x.val + 1)) := by
  by_cases h' : x.val = 254
  · rw [h', field_255]; exact le_top
  · rw [field_ofNat _ (by omega) (by omega)]
    exact_mod_cast (one_le_zpow₀ (by norm_num) (by omega) : (1 : ℝ) ≤ (2 : ℝ) ^ (((x.val + 1 : ℕ) : ℤ) - 127))

theorem count_le (y : EReal) (h : y < 1) : count y ≤ 126 := by
  have hs : (Finset.univ.filter fun x : Fin 255 => field (BitVec.ofNat 32 (x.val + 1)) ≤ y) ⊆ Finset.univ.filter fun x : Fin 255 => x.val < 126 := by
    intro x hx
    rw [Finset.mem_filter] at hx ⊢
    refine ⟨Finset.mem_univ _, ?_⟩
    by_contra hc
    exact absurd (hx.2.trans_lt h) (not_lt.mpr (one_le_field x (by omega)))
  exact (Finset.card_le_card hs).trans (by decide +kernel)

theorem lt_count (y : EReal) (h : y < 1) : y < (((2 : ℝ) ^ ((count y : ℤ) - 126) : ℝ) : EReal) := by
  by_contra hc
  rw [not_lt] at hc
  have hN := count_le y h
  have hs : (Finset.univ.filter fun x : Fin 255 => x.val ≤ count y) ⊆ (Finset.univ.filter fun x : Fin 255 => field (BitVec.ofNat 32 (x.val + 1)) ≤ y) := by
    intro x hx
    rw [Finset.mem_filter] at hx ⊢
    refine ⟨Finset.mem_univ _, le_trans ?_ hc⟩
    rw [field_ofNat _ (by omega) (by omega), EReal.coe_le_coe_iff]
    exact zpow_le_zpow_right₀ (by norm_num) (by omega)
  have h2 : (Finset.univ.filter fun x : Fin 255 => x.val ≤ count y).card = count y + 1 :=
    (by decide +kernel : ∀ n : Fin 127, (Finset.univ.filter fun x : Fin 255 => x.val ≤ n.val).card = n.val + 1) ⟨count y, by omega⟩
  have h3 := Finset.card_le_card hs
  rw [h2] at h3
  exact absurd h3 (by unfold count; omega)

variable {ι : Type} [Fintype ι]

/-- A block's largest probability is at most 1. -/
theorem blockProb_le [Nonempty ι] (s : ι → EReal) (b : EReal) (hb : b ≤ top s) : blockProb s b * ((1 / 448 : ℝ) : EReal) < 1 := by
  unfold blockProb
  rcases inf_or_coe (top s) with h | ⟨m, hm⟩
  · rw [ex_of_inf h hb, zero_mul, zero_mul]; exact zero_lt_one
  · obtain ⟨T, hT, hTe, hle⟩ := total_coe s m hm
    obtain ⟨r, hr, hr0⟩ := ex_coe m (hm ▸ hb)
    have h1 : Ideal.div 1 (T : EReal) = ((1 / T : ℝ) : EReal) := by exact_mod_cast div_coe 1 T hT
    have h2 := hle b hb
    rw [hr, EReal.coe_le_coe_iff] at h2
    rw [hTe, hm, hr, h1, ← EReal.coe_mul, ← EReal.coe_mul]
    have h3 : r * (1 / T) ≤ 1 := by rw [mul_one_div, div_le_one hT]; exact h2
    exact_mod_cast (by linarith : r * (1 / T) * (1 / 448) < 1)

/-- What the kernel stores of the exponent of a block's scale, less one. -/
def kexp (a : EReal) : BitVec 32 := if a = 0 then 126#32 else BitVec.ofNat 32 (count (a * ((1 / 448 : ℝ) : EReal)))

/-- The kernel's quantiser, in its own operations. -/
theorem kernel_quant [Nonempty ι] (s : ι → EReal) (b x : EReal) (hb : b ≤ top s) (hx : x ≤ b) :
    min (448 : EReal) (max (-448) (ex (top s) x * (field (IntOp.subi 253#32 (kexp (blockProb s b))) * Ideal.div 1 (total s))))
        * field (IntOp.addi (kexp (blockProb s b)) 1#32) = prob s x := by
  have h1 := blockProb_le s b hb
  obtain ⟨N, hN, hz, hk⟩ : ∃ N : Nat, N ≤ 126 ∧ (blockProb s b ≠ 0 → blockProb s b * ((1 / 448 : ℝ) : EReal) < (((2 : ℝ) ^ ((N : ℤ) - 126) : ℝ) : EReal)) ∧
      kexp (blockProb s b) = BitVec.ofNat 32 N := by
    by_cases h0 : blockProb s b = 0
    · exact ⟨126, le_rfl, fun h => absurd h0 h, if_pos h0⟩
    · exact ⟨_, count_le _ h1, fun _ => lt_count _ h1, if_neg h0⟩
  have e1 : IntOp.subi 253#32 (BitVec.ofNat 32 N) = BitVec.ofNat 32 (253 - N) :=
    (by decide +kernel : ∀ n : Fin 127, IntOp.subi 253#32 (BitVec.ofNat 32 n.val) = BitVec.ofNat 32 (253 - n.val)) ⟨N, by omega⟩
  have e2 : IntOp.addi (BitVec.ofNat 32 N) 1#32 = BitVec.ofNat 32 (N + 1) :=
    (by decide +kernel : ∀ n : Fin 127, IntOp.addi (BitVec.ofNat 32 n.val) 1#32 = BitVec.ofNat 32 (n.val + 1)) ⟨N, by omega⟩
  rw [hk, e1, e2, field_ofNat _ (by omega) (by omega), field_ofNat _ (by omega) (by omega),
    show ((253 - N : ℕ) : ℤ) - 127 = 126 - (N : ℤ) by omega, show ((N + 1 : ℕ) : ℤ) - 127 = (N : ℤ) - 126 by omega]
  exact kernel_prob s b x hb hx N hz

/-! ## The keys -/

/-- The key held at position `r` of a reordered group. -/
def key (r : Fin 256) : Fin 256 := ⟨32 * (r.val % 8) + r.val / 8, by omega⟩

/-- The position of a key in a reordered group. -/
def pos (k : Fin 256) : Fin 256 := ⟨8 * (k.val % 32) + k.val / 32, by omega⟩

def keyEquiv : Fin 256 ≃ Fin 256 where
  toFun := key
  invFun := pos
  left_inv r := Fin.ext (by simp only [key, pos]; omega)
  right_inv r := Fin.ext (by simp only [key, pos]; omega)

/-- Key `y` of group `t`. -/
def ofGroup (t : Fin 4) (y : Fin 256) : Fin 1024 := ⟨256 * t.val + y.val, by omega⟩
/-- Key `x` of block `r` of a group. -/
def ofBlock (r : Fin 8) (x : Fin 32) : Fin 256 := ⟨32 * r.val + x.val, by omega⟩

def groupEquiv : Fin 4 × Fin 256 ≃ Fin 1024 where
  toFun p := ofGroup p.1 p.2
  invFun k := (⟨k.val / 256, by omega⟩, ⟨k.val % 256, by omega⟩)
  left_inv p := Prod.ext (Fin.ext (by simp only [ofGroup]; omega)) (Fin.ext (by simp only [ofGroup]; omega))
  right_inv k := Fin.ext (by simp only [ofGroup]; omega)

def blockEquiv : Fin 8 × Fin 32 ≃ Fin 256 where
  toFun p := ofBlock p.1 p.2
  invFun k := (⟨k.val / 32, by omega⟩, ⟨k.val % 32, by omega⟩)
  left_inv p := Prod.ext (Fin.ext (by simp only [ofBlock]; omega)) (Fin.ext (by simp only [ofBlock]; omega))
  right_inv k := Fin.ext (by simp only [ofBlock]; omega)

theorem sum_groups (f : Fin 1024 → EReal) : ∑ k, f k = ∑ t, ∑ y, f (ofGroup t y) := by
  rw [← groupEquiv.sum_comp, Fintype.sum_prod_type]; rfl
theorem sum_blocks (f : Fin 256 → EReal) : ∑ k, f k = ∑ r, ∑ x, f (ofBlock r x) := by
  rw [← blockEquiv.sum_comp, Fintype.sum_prod_type]; rfl
theorem sum_key (f : Fin 256 → EReal) : ∑ r, f (key r) = ∑ k, f k := keyEquiv.sum_comp f
theorem sup_groups (f : Fin 1024 → EReal) : ⨆ k, f k = ⨆ t, ⨆ y, f (ofGroup t y) := by
  rw [← groupEquiv.iSup_comp, iSup_prod]; rfl
theorem sup_blocks (f : Fin 256 → EReal) : ⨆ k, f k = ⨆ r, ⨆ x, f (ofBlock r x) := by
  rw [← blockEquiv.iSup_comp, iSup_prod]; rfl

/-- A fold of the maximum, from minus infinity, is the supremum. -/
theorem fold_max (f : ι → EReal) : Finset.univ.fold max ⊥ f = ⨆ k, f k := by
  rw [← Finset.sup_univ_eq_iSup]; rfl

/-- A sum against an indicator. -/
theorem sum_pick [DecidableEq ι] (f : ι → EReal) (j : ι) (g : ι → EReal) (hj : g j = 1) (h0 : ∀ x, x ≠ j → g x = 0) : ∑ x, f x * g x = f j := by
  rw [Finset.sum_eq_single j (fun x _ hx => by rw [h0 x hx, mul_zero]) (fun h => absurd (Finset.mem_univ j) h), hj, mul_one]

end Cert.Soft

end
-- ==== Proof.BlockAt.lean ====
/- The body's vectors read at an index, over the extended reals: dequantised operands, reordered key groups, scores. -/
module

public import proofs.«01_k».proof.Proof.Block
public import proofs.«01_k».proof.Proof.Fields
public import Idealize.ShloMosaic.Lib.Pointwise

@[expose] public section

set_option maxRecDepth 16384

noncomputable section

namespace Cert.KernelIdeal.Block

open Cert.KernelIdeal Cert.KernelIdeal.Gen Cert.Soft Idealize.ShloMosaic Idealize.ShloMosaic.TcCoe

/-! ## Index arithmetic -/

theorem floorDiv_apply {s : Shape} (x : IVec s 32) (i : s.Idx) (r : Fin 1024) (h : x i = BitVec.ofNat 32 r.val) :
    floorDiv x 32#32 i = BitVec.ofNat 32 (r.val / 32) :=
  (show floorDiv x 32#32 i = floorDiv (s := S4x128) (fun _ => x i) 32#32 (ix2 0 0) from rfl).trans
    (h ▸ (by decide +kernel : ∀ r : Fin 1024, floorDiv (s := S4x128) (fun _ => BitVec.ofNat 32 r.val) 32#32 (ix2 0 0) = BitVec.ofNat 32 (r.val / 32)) r)

theorem floorDiv8_apply (x : IVec S256x256 32) (i : S256x256.Idx) (r : Fin 256) (h : x i = BitVec.ofNat 32 r.val) :
    floorDiv x 8#32 i = BitVec.ofNat 32 (r.val / 8) :=
  (show floorDiv x 8#32 i = floorDiv (s := S4x128) (fun _ => x i) 8#32 (ix2 0 0) from rfl).trans
    (h ▸ (by decide +kernel : ∀ r : Fin 256, floorDiv (s := S4x128) (fun _ => BitVec.ofNat 32 r.val) 8#32 (ix2 0 0) = BitVec.ofNat 32 (r.val / 8)) r)

theorem floorRem8_apply (x : IVec S256x256 32) (a b : Fin 256) (r : Fin 256) (h : x (ix2 a b) = BitVec.ofNat 32 r.val) :
    floorRem8 x (ix2 a b) = BitVec.ofNat 32 (r.val % 8) := by
  pointwise [floorRem8]
  rw [h]
  clear h
  revert r
  decide +kernel

theorem keyAt_apply (x : IVec S256x256 32) (a b : Fin 256) (r : Fin 256) (h : x (ix2 a b) = BitVec.ofNat 32 r.val) :
    keyAt x (ix2 a b) = BitVec.ofNat 32 (key r).val := by
  show IntOp.addi (IntOp.muli 32#32 (floorRem8 x (ix2 a b))) (floorDiv x 8#32 (ix2 a b)) = _
  rw [floorRem8_apply x a b r h, floorDiv8_apply x (ix2 a b) r h]
  exact (by decide +kernel : ∀ r : Fin 256, IntOp.addi (IntOp.muli 32#32 (BitVec.ofNat 32 (r.val % 8))) (BitVec.ofNat 32 (r.val / 8)) = BitVec.ofNat 32 (key r).val) r

theorem rowIx_apply (a b : Fin 256) : rowIx (ix2 a b) = BitVec.ofNat 32 a.val := by pointwise [rowIx]
theorem colIx_apply (a b : Fin 256) : colIx (ix2 a b) = BitVec.ofNat 32 b.val := by pointwise [colIx]

theorem onehot_apply {s : Shape} (b : IVec s 1) (i : s.Idx) : (onehot b : FVec Ideal s .bf16) i = if b i = 1#1 then 1 else 0 := by
  pointwise [onehot]
  rfl

theorem ofNat_eq (a b : Nat) (ha : a < 1024) (hb : b < 1024) : (BitVec.ofNat 32 a = BitVec.ofNat 32 b) ↔ a = b := by
  refine ⟨fun h => ?_, fun h => h ▸ rfl⟩
  have := congrArg BitVec.toNat h
  simp only [BitVec.toNat_ofNat] at this
  omega

theorem eq_iff (a b : Nat) (ha : a < 1024) (hb : b < 1024) :
    (IntOp.cmpi .eq (BitVec.ofNat 32 a) (BitVec.ofNat 32 b) = 1#1) ↔ a = b := by
  rw [← ofNat_eq a b ha hb]
  show BitVec.ofBool (decide (BitVec.ofNat 32 a = BitVec.ofNat 32 b)) = 1#1 ↔ _
  by_cases h : BitVec.ofNat 32 a = BitVec.ofNat 32 b <;> simp [h]

theorem permRows_apply (r x : Fin 256) : (permRows : FVec Ideal S256x256 .bf16) (ix2 r x) = if x = key r then 1 else 0 := by
  unfold permRows
  rw [onehot_apply]
  show (if IntOp.cmpi .eq (colIx (ix2 r x)) (keyAt rowIx (ix2 r x)) = 1#1 then _ else _) = _
  rw [colIx_apply, keyAt_apply _ r x r (rowIx_apply r x)]
  simp only [eq_iff x.val (key r).val (by omega) (by omega), Fin.ext_iff]

theorem permCols_apply (x r : Fin 256) : (permCols : FVec Ideal S256x256 .bf16) (ix2 x r) = if x = key r then 1 else 0 := by
  unfold permCols
  rw [onehot_apply]
  show (if IntOp.cmpi .eq (rowIx (ix2 x r)) (keyAt colIx (ix2 x r)) = 1#1 then _ else _) = _
  rw [rowIx_apply, keyAt_apply _ x r r (colIx_apply x r)]
  simp only [eq_iff x.val (key r).val (by omega) (by omega), Fin.ext_iff]

theorem visible_apply (r c : Fin 256) : (visible (ix2 r c) = 1#1) ↔ (key r).val ≤ c.val := by
  show IntOp.cmpi .sle (keyAt rowIx (ix2 r c)) (colIx (ix2 r c)) = 1#1 ↔ _
  rw [keyAt_apply _ r c r (rowIx_apply r c), colIx_apply]
  show BitVec.ofBool (BitVec.sle (BitVec.ofNat 32 (key r).val) (BitVec.ofNat 32 c.val)) = 1#1 ↔ _
  rw [BitVec.sle_eq_decide]
  have h1 (x : Fin 256) : (BitVec.ofNat 32 x.val).toInt = x.val := by
    rw [BitVec.toInt_eq_toNat_of_lt (by rw [BitVec.toNat_ofNat]; omega), BitVec.toNat_ofNat]; omega
  rw [h1, h1]
  by_cases h : (key r).val ≤ c.val <;> simp [h]

theorem laneBlk_apply (x : Fin 4) (d : Fin 128) : (laneBlk : FVec Ideal S4x128 .bf16) (ix2 x d) = if x.val = d.val / 32 then 1 else 0 := by
  unfold laneBlk
  rw [onehot_apply]
  show (if IntOp.cmpi .eq (floorDiv _ 32#32 (ix2 x d)) _ = 1#1 then _ else _) = _
  rw [floorDiv_apply _ (ix2 x d) ⟨d.val, by omega⟩ (by pointwise []),
    show iota .tc S4x128 32 [0] iota_S4x128_d0_w32 (ix2 x d) = BitVec.ofNat 32 x.val by pointwise []]
  show (if IntOp.cmpi .eq (BitVec.ofNat 32 (d.val / 32)) (BitVec.ofNat 32 x.val) = 1#1 then _ else _) = _
  simp only [eq_iff (d.val / 32) x.val (by omega) (by omega), eq_comm]

theorem keyBlk_apply (x : Fin 32) (k : Fin 1024) : (keyBlk : FVec Ideal S32x1024 .bf16) (ix2 x k) = if x.val = k.val / 32 then 1 else 0 := by
  unfold keyBlk
  rw [onehot_apply]
  show (if IntOp.cmpi .eq (floorDiv _ 32#32 (ix2 x k)) _ = 1#1 then _ else _) = _
  rw [floorDiv_apply _ (ix2 x k) k (by pointwise []),
    show iota .tc S32x1024 32 [0] iota_S32x1024_d0_w32 (ix2 x k) = BitVec.ofNat 32 x.val by pointwise []]
  show (if IntOp.cmpi .eq (BitVec.ofNat 32 (k.val / 32)) (BitVec.ofNat 32 x.val) = 1#1 then _ else _) = _
  simp only [eq_iff (k.val / 32) x.val (by omega) (by omega), eq_comm]

/-! ## The dequantised operands -/

/-- What a scale byte stands for. -/
def byte (x : BitVec 8) : EReal := field (x.setWidth 32)

theorem pick4 (f : Fin 4 → EReal) (d : Fin 128) (g : Fin 4 → EReal) (hg : ∀ x, g x = if x.val = d.val / 32 then 1 else 0) :
    ∑ x, f x * g x = f ⟨d.val / 32, by omega⟩ :=
  sum_pick f ⟨d.val / 32, by omega⟩ g (by rw [hg, if_pos rfl]) fun x hx => by rw [hg, if_neg fun h => hx (Fin.ext h)]

theorem kDeq_apply (y2 : Vec Ideal S1x1x1024x128 .fp8e4m3) (y3 : Vec Ideal S1x1x1024x4 .i8) (r : Fin 1024) (d : Fin 128) :
    kDeq y2 y3 (ix2 r d) = (y2 (ix4 0 0 r d) : EReal) * byte (y3 (ix4 0 0 r ⟨d.val / 32, by omega⟩)) := by
  pointwise [kDeq, pow2]
  exact congrArg _ (pick4 (fun x => byte (y3 (ix4 0 0 r x))) d _ fun x => laneBlk_apply x d)

theorem qDeq_apply (y0 : Vec Ideal S1x1x256x128 .fp8e4m3) (y1 : Vec Ideal S1x1x256x4 .i8) (r : Fin 256) (d : Fin 128) :
    qDeq y0 y1 (ix2 r d) = (y0 (ix4 0 0 r d) : EReal) * byte (y1 (ix4 0 0 r ⟨d.val / 32, by omega⟩)) := by
  pointwise [qDeq, pow2]
  exact congrArg _ (pick4 (fun x => byte (y1 (ix4 0 0 r x))) d _ fun x => laneBlk_apply x d)

theorem vDeq_apply (y4 : Vec Ideal S1x1x128x1024 .fp8e4m3) (y5 : Vec Ideal S1x1x128x32 .i8) (d : Fin 128) (k : Fin 1024) :
    vDeq y4 y5 (ix2 d k) = (y4 (ix4 0 0 d k) : EReal) * byte (y5 (ix4 0 0 d ⟨k.val / 32, by omega⟩)) := by
  pointwise [vDeq, pow2]
  exact congrArg _ (sum_pick (fun x => byte (y5 (ix4 0 0 d x))) ⟨k.val / 32, by omega⟩ _ (by rw [keyBlk_apply, if_pos rfl])
    fun x hx => by rw [keyBlk_apply, if_neg fun h => hx (Fin.ext h)])

/-! ## The reordered groups -/

theorem kp_apply (k : FVec Ideal S1024x128 .bf16) (t : Fin 4) (r : Fin 256) (d : Fin 128) : kp k t (ix2 r d) = k (ix2 (ofGroup t (key r)) d) := by
  have h (o : Fin 4) (f : Fin 256 → EReal) (hf : ∀ x, f x = k (ix2 (ofGroup o x) d)) :
      ∑ x, (permRows : FVec Ideal S256x256 .bf16) (ix2 r x) * f x = k (ix2 (ofGroup o (key r)) d) := by
    rw [← hf, ← sum_pick f (key r) (fun x => (permRows : FVec Ideal S256x256 .bf16) (ix2 r x)) (by rw [permRows_apply, if_pos rfl])
      fun x hx => by rw [permRows_apply, if_neg hx]]
    exact Finset.sum_congr rfl fun x _ => mul_comm _ _
  unfold kp
  match t with
  | 0 => pointwise []; exact h 0 _ fun x => congrArg (fun y => k (ix2 y d)) (Fin.ext (by simp [ofGroup]))
  | 1 => pointwise []; exact h 1 _ fun x => rfl
  | 2 => pointwise []; exact h 2 _ fun x => rfl
  | 3 => pointwise []; exact h 3 _ fun x => rfl

theorem vp_apply (v : FVec Ideal S128x1024 .bf16) (t : Fin 4) (d : Fin 128) (r : Fin 256) : vp v t (ix2 d r) = v (ix2 d (ofGroup t (key r))) := by
  have h (o : Fin 4) (f : Fin 256 → EReal) (hf : ∀ x, f x = v (ix2 d (ofGroup o x))) :
      ∑ x, f x * (permCols : FVec Ideal S256x256 .bf16) (ix2 x r) = v (ix2 d (ofGroup o (key r))) := by
    rw [← hf]
    exact sum_pick f (key r) _ (by rw [permCols_apply, if_pos rfl]) fun x hx => by rw [permCols_apply, if_neg hx]
  unfold vp
  match t with
  | 0 => pointwise []; exact h 0 _ fun x => congrArg (fun y => v (ix2 d y)) (Fin.ext (by simp [ofGroup]))
  | 1 => pointwise []; exact h 1 _ fun x => rfl
  | 2 => pointwise []; exact h 2 _ fun x => rfl
  | 3 => pointwise []; exact h 3 _ fun x => rfl

/-! ## The scores -/

/-- The scores of query `c` of block `i` against all keys, minus infinity beyond the query. -/
def row (k : FVec Ideal S1024x128 .bf16) (q : FVec Ideal S256x128 .bf16) (i : Fin 4) (c : Fin 256) (κ : Fin 1024) : EReal :=
  if κ.val ≤ 256 * i.val + c.val then ∑ d : Fin 128, (k (ix2 κ d) : EReal) * q (ix2 c d) else ⊥

theorem score_apply (k : FVec Ideal S1024x128 .bf16) (q : FVec Ideal S256x128 .bf16) (i t : Fin 4) (ht : t ≤ i) (r c : Fin 256) :
    score k q i t (ix2 r c) = row k q i c (ofGroup t (key r)) := by
  have hs : (matmul dot_S256x128_S256x128_S256x256_1_1_0_0_n_n none (kp k t) q (constant S256x256 .f32 0x00000000#32) : FVec Ideal S256x256 .f32) (ix2 r c)
      = ∑ d : Fin 128, (k (ix2 (ofGroup t (key r)) d) : EReal) * q (ix2 c d) := by
    pointwise []
    exact Finset.sum_congr rfl fun d _ => by rw [kp_apply]
  unfold score row
  rw [← hs]
  by_cases h : t = i
  · subst h
    simp only [if_pos rfl]
    show (if visible (ix2 r c) = 1#1 then _ else _) = _
    simp only [visible_apply]
    have e : ((ofGroup t (key r)).val ≤ 256 * t.val + c.val) ↔ (key r).val ≤ c.val := by simp only [ofGroup]; omega
    simp only [e]
    split
    · rfl
    · exact ofBits_neg_inf
  · have h' : t.val < i.val := by
      have := Fin.val_ne_of_ne h
      have : t.val ≤ i.val := ht
      omega
    simp only [if_neg h]
    rw [if_pos (by simp only [ofGroup]; omega)]

end Cert.KernelIdeal.Block

end
-- ==== Proof.BlockOut.lean ====
/- What a block of queries stores, over the extended reals: the values weighted by the probabilities of the block's scores. -/
module

public import proofs.«01_k».proof.Proof.BlockAt

@[expose] public section

set_option maxRecDepth 16384

noncomputable section

namespace Cert.KernelIdeal.Block

open Cert.KernelIdeal Cert.KernelIdeal.Gen Cert.Soft Idealize.ShloMosaic Idealize.ShloMosaic.TcCoe

/-! ## The named constants -/

theorem named_scale : (Named.named κ "score_scale_log2e" 0x3E0293EE#32 : Ideal .f32) = (root2 : EReal) := IdealRules.named_const.ideal_named_scalar _ _ _ _ rfl
theorem named_448 : (Named.named κ "inv_e4m3_max" 0x3B124925#32 : Ideal .f32) = ((1 / 448 : ℝ) : EReal) := IdealRules.named_const.ideal_named_scalar _ _ _ _ rfl

/-! ## Sums and suprema over the groups `0 … i` -/

theorem sup_upto (f : Nat → EReal) (g : Fin 4 → EReal) (i : Fin 4) (hf : ∀ t, t ≤ i → f t.val = g t) (h : ∀ t, i < t → g t = ⊥) :
    (i.val.rec (f 0) fun m a => max a (f (m + 1)) : EReal) = ⨆ t, g t := by
  have e : ⨆ t, g t = max (max (max (g 0) (g 1)) (g 2)) (g 3) := by
    refine le_antisymm (iSup_le fun t => ?_) (max_le (max_le (max_le (le_iSup g 0) (le_iSup g 1)) (le_iSup g 2)) (le_iSup g 3))
    match t with
    | 0 => simp
    | 1 => simp
    | 2 => simp
    | 3 => simp
  rw [e]
  match i with
  | 0 => rw [h 1 (by decide), h 2 (by decide), h 3 (by decide), ← hf 0 (by decide)]; simp
  | 1 => rw [h 2 (by decide), h 3 (by decide), max_bot_right, max_bot_right, ← hf 0 (by decide), ← hf 1 (by decide)]; rfl
  | 2 => rw [h 3 (by decide), max_bot_right, ← hf 0 (by decide), ← hf 1 (by decide), ← hf 2 (by decide)]; rfl
  | 3 => rw [← hf 0 (by decide), ← hf 1 (by decide), ← hf 2 (by decide), ← hf 3 (by decide)]; rfl

theorem sum_upto (f : Nat → EReal) (g : Fin 4 → EReal) (i : Fin 4) (hf : ∀ t, t ≤ i → f t.val = g t) (h : ∀ t, i < t → g t = 0) :
    ((i.val + 1).rec 0 fun m a => a + f m : EReal) = ∑ t, g t := by
  rw [Fin.sum_univ_four]
  match i with
  | 0 => rw [h 1 (by decide), h 2 (by decide), h 3 (by decide), add_zero, add_zero, add_zero, ← hf 0 (by decide)]; exact zero_add _
  | 1 => rw [h 2 (by decide), h 3 (by decide), add_zero, add_zero, ← hf 0 (by decide), ← hf 1 (by decide)]; exact congrArg (· + f 1) (zero_add _)
  | 2 =>
    rw [h 3 (by decide), add_zero, ← hf 0 (by decide), ← hf 1 (by decide), ← hf 2 (by decide)]
    exact congrArg (· + f 1 + f 2) (zero_add _)
  | 3 =>
    rw [← hf 0 (by decide), ← hf 1 (by decide), ← hf 2 (by decide), ← hf 3 (by decide)]
    exact congrArg (· + f 1 + f 2 + f 3) (zero_add _)

theorem rec_max {s : Shape} (f : Nat → FVec Ideal s .f32) (n : Nat) (j : s.Idx) :
    (n.rec (f 0) fun m a => maximumf a (f (m + 1)) : FVec Ideal s .f32) j = (n.rec (f 0 j) fun m a => max a (f (m + 1) j) : EReal) := by
  induction n with
  | zero => rfl
  | succ n ih => exact congrArg (fun a : EReal => max a (f (n + 1) j)) ih

theorem rec_add {s : Shape} (b : FVec Ideal s .f32) (f : Nat → FVec Ideal s .f32) (n : Nat) (j : s.Idx) :
    (n.rec b fun m a => addf a (f m) : FVec Ideal s .f32) j = (n.rec (b j) fun m a => a + f m j : EReal) := by
  induction n with
  | zero => rfl
  | succ n ih => exact congrArg (fun a : EReal => a + f n j) ih

/-! ## The vectors at an index -/

/-- The position in a group of key `x` of block `r`. -/
def at32 (r : Fin 8) (x : Fin 32) : Fin 256 := ⟨x.val * 8 + r.val, by omega⟩

theorem key_at32 (r : Fin 8) (x : Fin 32) : key (at32 r x) = ofBlock r x := Fin.ext (by simp only [key, at32, ofBlock]; omega)
theorem key_eq (r : Fin 256) : key r = ofBlock ⟨r.val % 8, by omega⟩ ⟨r.val / 8, by omega⟩ := rfl

theorem blkMax_apply (s : FVec Ideal S256x256 .f32) (r : Fin 8) (c : Fin 256) : blkMax s (ix2 r c) = ⨆ x : Fin 32, s (ix2 (at32 r x) c) := by
  pointwise [blkMax]
  rw [ofBits_neg_inf]
  exact fold_max fun x : Fin 32 => (s (ix2 (at32 r x) c) : EReal)

theorem blkSum_apply (s : FVec Ideal S256x256 .f32) (r : Fin 8) (c : Fin 256) : blkSum s (ix2 r c) = ∑ x : Fin 32, (s (ix2 (at32 r x) c) : EReal) := by
  pointwise [blkSum]
  rfl

theorem rowMax_apply (f : Nat → FVec Ideal S8x256 .f32) (n : Nat) (c : Fin 256) :
    rowMax f n (ix2 0 c) = (⨆ x : Fin 8, (n.rec (f 0 (ix2 x c)) fun m a => max a (f (m + 1) (ix2 x c)) : EReal)) * (root2 : EReal) := by
  pointwise [rowMax, scale]
  rw [named_scale, ofBits_neg_inf]
  simp only [rec_max]
  exact congrArg (· * (root2 : EReal)) (fold_max _)

theorem expo_apply (s : FVec Ideal S256x256 .f32) (m : FVec Ideal S1x256 .f32) (r c : Fin 256) :
    expo s m (ix2 r c) = Ideal.exp2 ((s (ix2 r c) : EReal) * (root2 : EReal) - m (ix2 0 c)) := by
  pointwise [expo, stored, scale]
  rw [named_scale]
  rfl

theorem invTotal_apply (f : Nat → FVec Ideal S256x256 .f32) (n : Nat) (c : Fin 256) :
    invTotal f n (ix2 0 c) = Ideal.div 1 (∑ r : Fin 8, ((n + 1).rec 0 fun m a => a + blkSum (f m) (ix2 r c) : EReal)) := by
  pointwise [invTotal]
  simp only [rec_add]
  rfl

theorem pMax_apply (b : FVec Ideal S8x256 .f32) (m inv : FVec Ideal S1x256 .f32) (r : Fin 8) (c : Fin 256) :
    pMax b m inv (ix2 r c) = Ideal.exp2 ((b (ix2 r c) : EReal) * (root2 : EReal) - m (ix2 0 c)) * (inv (ix2 0 c) : EReal) := by
  pointwise [pMax, scale]
  rw [named_scale]
  rfl

theorem expField_apply (a : FVec Ideal S8x256 .f32) (r : Fin 8) (c : Fin 256) : expField a (ix2 r c) = kexp (a (ix2 r c)) := by
  pointwise [expField]
  rw [named_448, IndicatorCount.fold_addi_setWidth_eq_card]
  unfold kexp Soft.count
  have e (x : Fin 255) : Ideal.ofBits .f32 (IntOp.shli ArithUnit.vector (IntOp.addi (BitVec.ofNat 32 x.val) 1#32) 23#32) = field (BitVec.ofNat 32 (x.val + 1)) :=
    congrArg field ((by decide +kernel : ∀ n : Fin 255, IntOp.addi (BitVec.ofNat 32 n.val) 1#32 = BitVec.ofNat 32 (n.val + 1)) x)
  have e' (P : Prop) [Decidable P] : (BitVec.ofBool (decide P) = 1#1) ↔ P := by by_cases h : P <;> simp [h]
  simp only [e, e']

theorem quant_apply (e : FVec Ideal S256x256 .f32) (z : IVec S8x256 32) (inv : FVec Ideal S1x256 .f32) (r c : Fin 256) :
    quant e z inv (ix2 r c) = min (448 : EReal) (max (-448) ((e (ix2 r c) : EReal) * (field (IntOp.subi 253#32 (z (ix2 ⟨r.val % 8, by omega⟩ c))) * inv (ix2 0 c))))
      * field (IntOp.addi (z (ix2 ⟨r.val % 8, by omega⟩ c)) 1#32) := by
  pointwise [quant, cat2, stored, pow2f]
  rw [ofBits_448, ofBits_neg_448]
  have e (a : Fin 8) (ha : a.val = r.val % 8) : Ideal.ofBits .f32 (IntOp.shli ArithUnit.vector (IntOp.addi (z (ix2 a c)) 1#32) 23#32)
      = field (IntOp.addi (z (ix2 ⟨r.val % 8, by omega⟩ c)) 1#32) :=
    congrArg (fun b : Fin 8 => field (IntOp.addi (z (ix2 b c)) 1#32)) (Fin.ext ha)
  have e' : (if h : r.val % 16 < 8 then Ideal.ofBits .f32 (IntOp.shli ArithUnit.vector (IntOp.addi (z (ix2 ⟨r.val % 16, by omega⟩ c)) 1#32) 23#32)
      else Ideal.ofBits .f32 (IntOp.shli ArithUnit.vector (IntOp.addi (z (ix2 ⟨r.val % 16 - 8, by omega⟩ c)) 1#32) 23#32))
      = field (IntOp.addi (z (ix2 ⟨r.val % 8, by omega⟩ c)) 1#32) := by
    split
    · exact e _ (by simp only []; omega)
    · exact e _ (by simp only []; omega)
  rw [e']
  rfl

theorem tail_apply (acc : FVec Ideal S128x256 .f32) (c : Fin 256) (d : Fin 128) :
    (shapeCast S1x1x256x128 (truncf .bf16 (transpose S256x128 [1, 0] acc transposes_S128x256_p1_0_S256x128) bitsLt_bf16_f32) shapeCasts_S256x128_S1x1x256x128 : FVec Ideal S1x1x256x128 .bf16)
      (ix4 0 0 c d) = acc (ix2 d c) := by pointwise []

theorem part_apply (x : FVec Ideal S128x256 .bf16) (y : FVec Ideal S256x256 .bf16) (c : Fin 256) (d : Fin 128) :
    (matmul dot_S128x256_S256x256_S128x256_1_0_0_1_n_n none x y (constant S128x256 .f32 0x00000000#32) : FVec Ideal S128x256 .f32) (ix2 d c)
      = ∑ j : Fin 256, (x (ix2 d j) : EReal) * y (ix2 j c) := by pointwise []

/-! ## A block's probabilities -/

section
variable (k : FVec Ideal S1024x128 .bf16) (q : FVec Ideal S256x128 .bf16) (i : Fin 4) (c : Fin 256)

/-- Keys of later groups are hidden. -/
theorem row_later (t : Fin 4) (ht : i < t) (y : Fin 256) : row k q i c (ofGroup t y) = ⊥ := by
  have : i.val < t.val := ht
  exact if_neg (by simp only [ofGroup]; omega)

theorem score_at32 (t : Fin 4) (ht : t ≤ i) (r : Fin 8) (x : Fin 32) :
    score k q i t (ix2 (at32 r x) c) = row k q i c (ofGroup t (ofBlock r x)) := by rw [score_apply k q i t ht, key_at32]

/-- The largest score of a block of keys. -/
def blockTop (t : Fin 4) (r : Fin 8) : EReal := ⨆ x : Fin 32, row k q i c (ofGroup t (ofBlock r x))

theorem blkMax_score (t : Fin 4) (ht : t ≤ i) (r : Fin 8) : blkMax (score k q i t) (ix2 r c) = blockTop k q i c t r := by
  rw [blkMax_apply]
  exact iSup_congr fun x => score_at32 k q i c t ht r x

theorem ofNat_val (t : Fin 4) : Fin.ofNat 4 t.val = t := Fin.ext (Nat.mod_eq_of_lt t.isLt)

theorem top_eq : top (row k q i c) = ⨆ r : Fin 8, ⨆ t : Fin 4, blockTop k q i c t r := by
  rw [iSup_comm]
  exact (sup_groups _).trans (iSup_congr fun t => sup_blocks fun y => row k q i c (ofGroup t y))

theorem rowMax_score : rowMax (fun t => blkMax (score k q i (Fin.ofNat 4 t))) i.val (ix2 0 c) = top (row k q i c) * (root2 : EReal) := by
  rw [rowMax_apply, top_eq]
  refine congrArg (· * (root2 : EReal)) (iSup_congr fun r => ?_)
  exact sup_upto (fun t => blkMax (score k q i (Fin.ofNat 4 t)) (ix2 r c)) _ i (fun t ht => by simp only [ofNat_val]; exact blkMax_score k q i c t ht r)
    fun t ht => by unfold blockTop; simp only [row_later k q i c t ht, iSup_const]

variable (m : FVec Ideal S1x256 .f32) (hm : m (ix2 0 c) = top (row k q i c) * (root2 : EReal))
include hm

theorem expo_score (t : Fin 4) (ht : t ≤ i) (r : Fin 256) :
    expo (score k q i t) m (ix2 r c) = ex (top (row k q i c)) (row k q i c (ofGroup t (key r))) := by
  rw [expo_apply, score_apply k q i t ht, hm]; rfl

theorem invTotal_score : invTotal (fun t => expo (score k q i (Fin.ofNat 4 t)) m) i.val (ix2 0 c) = Ideal.div 1 (total (row k q i c)) := by
  rw [invTotal_apply]
  refine congrArg (Ideal.div 1) ?_
  have e : total (row k q i c) = ∑ r : Fin 8, ∑ t : Fin 4, ∑ x : Fin 32, ex (top (row k q i c)) (row k q i c (ofGroup t (ofBlock r x))) := by
    rw [Finset.sum_comm]
    exact (sum_groups _).trans (Finset.sum_congr rfl fun t _ => sum_blocks fun y => ex (top (row k q i c)) (row k q i c (ofGroup t y)))
  rw [e]
  refine Finset.sum_congr rfl fun r _ => ?_
  refine sum_upto (fun t => blkSum (expo (score k q i (Fin.ofNat 4 t)) m) (ix2 r c)) _ i (fun t ht => ?_) fun t ht => ?_
  · simp only [ofNat_val]
    rw [blkSum_apply]
    exact Finset.sum_congr rfl fun x _ => by rw [expo_score k q i c m hm t ht, key_at32]
  · simp only [row_later k q i c t ht, ex_bot, Finset.sum_const_zero]

variable (inv : FVec Ideal S1x256 .f32) (hinv : inv (ix2 0 c) = Ideal.div 1 (total (row k q i c)))
include hinv

theorem quant_score (t : Fin 4) (ht : t ≤ i) (r : Fin 256) :
    quant (expo (score k q i t) m) (expField (pMax (blkMax (score k q i t)) m inv)) inv (ix2 r c)
      = prob (row k q i c) (row k q i c (ofGroup t (key r))) := by
  have hp : pMax (blkMax (score k q i t)) m inv (ix2 ⟨r.val % 8, by omega⟩ c) = blockProb (row k q i c) (blockTop k q i c t ⟨r.val % 8, by omega⟩) := by
    rw [pMax_apply, blkMax_score k q i c t ht, hm, hinv]; rfl
  rw [quant_apply, expField_apply, hp, expo_score k q i c m hm t ht, hinv]
  refine kernel_quant (row k q i c) _ _ (iSup_le fun x => le_iSup (row k q i c) _) ?_
  rw [key_eq]
  exact le_iSup (fun x : Fin 32 => row k q i c (ofGroup t (ofBlock ⟨r.val % 8, by omega⟩ x))) ⟨r.val / 8, by omega⟩

end

/-- A hidden key has probability 0. -/
theorem prob_bot {ι : Type} [Fintype ι] [Nonempty ι] (s : ι → EReal) : prob s ⊥ = 0 := by
  unfold prob
  split
  · rfl
  · rename_i h
    obtain ⟨m, hm⟩ := (inf_or_coe (top s)).resolve_left h
    obtain ⟨T, hT, hTe, -⟩ := total_coe s m hm
    rw [ex_bot, hTe, Ideal.div, if_neg (by exact_mod_cast hT.ne'), zero_mul]

/-- Query `c` of block `i`, lane `d`: the values of the lane weighted by the probabilities of the query's scores. -/
theorem out_apply (k : FVec Ideal S1024x128 .bf16) (v : FVec Ideal S128x1024 .bf16) (q : FVec Ideal S256x128 .bf16) (i : Fin 4) (c : Fin 256) (d : Fin 128) :
    out k v q i (ix4 0 0 c d) = ∑ κ : Fin 1024, (v (ix2 d κ) : EReal) * prob (row k q i c) (row k q i c κ) := by
  have hm := rowMax_score k q i c
  have hinv := invTotal_score k q i c _ hm
  have e (f : Nat → FVec Ideal S128x256 .f32) :
      ((i.val + 1).rec (broadcast S128x256 (Scalar.ofBits .f32 0x00000000#32 : Ideal .f32)) fun t a => addf a (f t) : FVec Ideal S128x256 .f32) (ix2 d c)
        = ((i.val + 1).rec 0 fun m a => a + f m (ix2 d c) : EReal) :=
    (rec_add (s := S128x256) _ f (i.val + 1) (ix2 d c)).trans (congrArg (fun z : EReal => ((i.val + 1).rec z fun m a => a + f m (ix2 d c) : EReal)) Ideal.ofBits_zero_f32)
  rw [sum_groups]
  refine (tail_apply _ c d).trans ((e _).trans (sum_upto _ _ i (fun t ht => ?_) fun t ht => ?_))
  · simp only [ofNat_val]
    rw [part_apply, ← sum_key fun y => (v (ix2 d (ofGroup t y)) : EReal) * prob (row k q i c) (row k q i c (ofGroup t y))]
    exact Finset.sum_congr rfl fun j _ => by rw [vp_apply, quant_score k q i c _ hm _ hinv t ht]
  · simp only [row_later k q i c t ht, prob_bot, mul_zero, Finset.sum_const_zero]

end Cert.KernelIdeal.Block

end
-- ==== Proof.Pieces.lean ====
/- The body's stores, read off its run: every load of a scratch buffer gives back what was stored there last, and what
   reaches the result is the twenty-eight pieces of `Block.lean`. -/
module

public import proofs.«01_k».proof.Proof.Gen.KernelIdeal.Value
public import proofs.«01_k».proof.Proof.Block
public import Idealize.ShloMosaic.Lib.WholeRead

@[expose] public section

set_option maxRecDepth 65536

noncomputable section

namespace Cert.KernelIdeal.Block

open Cert.KernelIdeal Cert.KernelIdeal.Gen Idealize.ShloMosaic Idealize.ShloMosaic.TcCoe Idealize.SL.Sem

variable {F : FTy → Type} [FloatOps F] [Named F]

section reads
variable {sig : RefSig} {κ : Kind} {sp : Space} {s : Shape} {e : EltTy} {Val : EltTy → Type} [∀ e, Nonempty (Val e)]

/-- A load through the rectangle of the last store reads the stored value. -/
theorem readCov_hit (v : View sig κ sp s e) (off size : Fin s.rank → Nat) (inb inb' : ∀ a, off a + size a ≤ s.size a)
    (w : (Rect.unit off size inb).shape.Idx → Val e) (L : List (View.Piece Val s e)) :
    v.readCov (⟨Rect.unit off size inb, w⟩ :: L) (Rect.unit off size inb').toLoadRect = w :=
  View.readCov_cons_toLoadRect v _ w L

/-- A load that shares no index with the last store reads what was there before. -/
theorem readCov_miss (v : View sig κ sp s e) (off size off' size' : Fin s.rank → Nat) (inb : ∀ a, off a + size a ≤ s.size a)
    (inb' : ∀ a, off' a + size' a ≤ s.size a)
    (w : (Rect.unit off size inb).shape.Idx → Val e) (L : List (View.Piece Val s e)) (a : Fin s.rank)
    (h : off a + size a ≤ off' a ∨ off' a + size' a ≤ off a) :
    v.readCov (⟨Rect.unit off size inb, w⟩ :: L) (Rect.unit off' size' inb').toLoadRect
      = v.readCov L (Rect.unit off' size' inb').toLoadRect := by
  rw [View.readCov_eq_canon', View.readCov_eq_canon']
  funext j
  refine View.canon_cons_of_not_mem _ _ fun hm => ?_
  rw [Rect.mem_set_unit] at hm
  have h1 := hm a
  have h2 : ((Rect.unit off' size' inb').toLoadRect.idx j a).val = off' a + 1 * (j a).val := rfl
  have h3 : (j a).val < size' a := (j a).isLt
  omega
end reads

section
variable {sig : RefSig} {κ : Kind} {sp : Space} {e : EltTy} {Val : EltTy → Type} [∀ e, Nonempty (Val e)]
theorem readCov_miss_s (v : View sig κ sp S4x256x256 e) (a b : Nat)
    (inb : ∀ k : Fin 3, (![a, 0, 0] : Fin 3 → Nat) k + (![1, 256, 256] : Fin 3 → Nat) k ≤ Shape.size S4x256x256 k)
    (inb' : ∀ k : Fin 3, (![b, 0, 0] : Fin 3 → Nat) k + (![1, 256, 256] : Fin 3 → Nat) k ≤ Shape.size S4x256x256 k)
    (w : (Rect.unit (s := S4x256x256) ![a, 0, 0] ![1, 256, 256] inb).shape.Idx → Val e) (L : List (View.Piece Val S4x256x256 e)) (h : a ≠ b) :
    v.readCov (⟨Rect.unit (s := S4x256x256) ![a, 0, 0] ![1, 256, 256] inb, w⟩ :: L) (Rect.unit (s := S4x256x256) ![b, 0, 0] ![1, 256, 256] inb').toLoadRect
      = v.readCov L (Rect.unit (s := S4x256x256) ![b, 0, 0] ![1, 256, 256] inb').toLoadRect :=
  readCov_miss v _ _ _ _ inb inb' w L 0 (by show a + 1 ≤ b ∨ b + 1 ≤ a; omega)
theorem readCov_miss_k (v : View sig κ sp S1024x128 e) (a b : Nat)
    (inb : ∀ k : Fin 2, (![a, 0] : Fin 2 → Nat) k + (![256, 128] : Fin 2 → Nat) k ≤ Shape.size S1024x128 k)
    (inb' : ∀ k : Fin 2, (![b, 0] : Fin 2 → Nat) k + (![256, 128] : Fin 2 → Nat) k ≤ Shape.size S1024x128 k)
    (w : (Rect.unit (s := S1024x128) ![a, 0] ![256, 128] inb).shape.Idx → Val e) (L : List (View.Piece Val S1024x128 e)) (h : a + 256 ≤ b ∨ b + 256 ≤ a) :
    v.readCov (⟨Rect.unit (s := S1024x128) ![a, 0] ![256, 128] inb, w⟩ :: L) (Rect.unit (s := S1024x128) ![b, 0] ![256, 128] inb').toLoadRect
      = v.readCov L (Rect.unit (s := S1024x128) ![b, 0] ![256, 128] inb').toLoadRect :=
  readCov_miss v _ _ _ _ inb inb' w L 0 h
theorem readCov_miss_v (v : View sig κ sp S128x1024 e) (a b : Nat)
    (inb : ∀ k : Fin 2, (![0, a] : Fin 2 → Nat) k + (![128, 256] : Fin 2 → Nat) k ≤ Shape.size S128x1024 k)
    (inb' : ∀ k : Fin 2, (![0, b] : Fin 2 → Nat) k + (![128, 256] : Fin 2 → Nat) k ≤ Shape.size S128x1024 k)
    (w : (Rect.unit (s := S128x1024) ![0, a] ![128, 256] inb).shape.Idx → Val e) (L : List (View.Piece Val S128x1024 e)) (h : a + 256 ≤ b ∨ b + 256 ≤ a) :
    v.readCov (⟨Rect.unit (s := S128x1024) ![0, a] ![128, 256] inb, w⟩ :: L) (Rect.unit (s := S128x1024) ![0, b] ![128, 256] inb').toLoadRect
      = v.readCov L (Rect.unit (s := S128x1024) ![0, b] ![128, 256] inb').toLoadRect :=
  readCov_miss v _ _ _ _ inb inb' w L 1 h
theorem readAt_whole {s : Shape} {m : Memref sig κ sp s e} (h : m.IsWhole) (X : s.Idx → Val e) (r : Rect s) :
    View.readAt Val m.view r.toLoadRect (h.unread X) = View.ld X r :=
  funext fun j => h.readAt_unread X _ j
end

theorem cat2_eq (a b : FVec F S8x256 .f32) (h) : concatenate S16x256 0 [⟨S8x256, a⟩, ⟨S8x256, b⟩] h = cat2 a b := rfl

set_option backward.isDefEq.respectTransparency false in
set_option maxHeartbeats 4000000 in
theorem run_eq (c : Dev nD) (i : grid0.Coords) (arg2 : Memref sig .tc .vmem S1x7x1024x128 .fp8e4m3) (harg2 : arg2.IsWhole) (arg3 : Memref sig .tc .vmem S1x7x1024x4 .i8) (harg3 : arg3.IsWhole) (arg4 : Memref sig .tc .vmem S1x1x1024x128 .fp8e4m3) (harg4 : arg4.IsWhole) (arg5 : Memref sig .tc .vmem S1x1x1024x4 .i8) (harg5 : arg5.IsWhole) (arg6 : Memref sig .tc .vmem S1x1x128x1024 .fp8e4m3) (harg6 : arg6.IsWhole) (arg7 : Memref sig .tc .vmem S1x1x128x32 .i8) (harg7 : arg7.IsWhole) (arg8 : Memref sig .tc .vmem S1x7x1024x128 .bf16) (harg8 : arg8.IsWhole) (arg9 : Memref sig .tc .vmem S1024x128 .bf16) (harg9 : arg9.IsWhole) (arg10 : Memref sig .tc .vmem S128x1024 .bf16) (harg10 : arg10.IsWhole) (arg11 : Memref sig .tc .vmem S4x256x256 .f32) (harg11 : arg11.IsWhole)
    (x0 : Vec F S1x7x1024x128 .fp8e4m3) (x1 : Vec F S1x7x1024x4 .i8) (x2 : Vec F S1x1x1024x128 .fp8e4m3) (x3 : Vec F S1x1x1024x4 .i8) (x4 : Vec F S1x1x128x1024 .fp8e4m3) (x5 : Vec F S1x1x128x32 .i8) :
    (kernelRun0_A c i arg2 harg2 arg3 harg3 arg4 harg4 arg5 harg5 arg6 harg6 arg7 harg7 arg8 harg8 arg9 harg9 arg10 harg10 arg11 harg11 x0 x1 x2 x3 x4 x5).1 = order.map (piece x0 x1 x2 x3 x4 x5) := by
  unfold kernelRun0_A
  dsimp only
  sl_unfold_words
  simp (config := {decide := true}) only [cat2_eq, readCov_hit, readAt_whole, readCov_miss_s, readCov_miss_k, readCov_miss_v, ne_eq, Nat.reduceEqDiff, OfNat.ofNat_ne_zero, not_false_eq_true, Nat.reduceAdd, Nat.reduceLeDiff, Nat.not_ofNat_le_one, true_or, or_true, zero_ne_one, one_ne_zero, OfNat.ofNat_ne_one,  OfNat.one_ne_ofNat, OfNat.zero_ne_ofNat, zero_add, le_refl]
  sl_kernel_rfl

end Cert.KernelIdeal.Block

end
-- ==== Proof.KernelArray.lean ====
/- What the kernel's result array holds after the run, over the extended reals: each query's values weighted by the
   probabilities of its scores, as one function of the argument arrays. -/
module

public import proofs.«01_k».proof.Proof.BlockOut
public import proofs.«01_k».proof.Proof.Pieces
public import proofs.«01_k».proof.Proof.Gen.KernelIdeal.Value

@[expose] public section

set_option maxRecDepth 16384

noncomputable section

namespace Cert.KernelIdeal.Block

open Cert.KernelIdeal Cert.KernelIdeal.Gen Cert.KernelIdeal.Value Cert.Soft Idealize.ShloMosaic Idealize.ShloMosaic.TcCoe Idealize.SL.Sem
open Idealize.ShloMosaic.Pipeline (Dat)

/-! ## One grid point's block -/

section
variable (x0 : Vec Ideal S1x7x1024x128 .fp8e4m3) (x1 : Vec Ideal S1x7x1024x4 .i8) (x2 : Vec Ideal S1x1x1024x128 .fp8e4m3) (x3 : Vec Ideal S1x1x1024x4 .i8)
  (x4 : Vec Ideal S1x1x128x1024 .fp8e4m3) (x5 : Vec Ideal S1x1x128x32 .i8)

/-- The scores of query `s` of head `r` of the grid point. -/
def blockRow (r : Fin 7) (s κ : Fin 1024) : EReal :=
  if κ.val ≤ s.val then ∑ d : Fin 128, ((x2 (ix4 0 0 κ d) : EReal) * byte (x3 (ix4 0 0 κ ⟨d.val / 32, by omega⟩)))
    * ((x0 (ix4 0 r s d) : EReal) * byte (x1 (ix4 0 r s ⟨d.val / 32, by omega⟩))) else ⊥

/-- The block at an index. -/
def blockVal (r : Fin 7) (s : Fin 1024) (d : Fin 128) : EReal :=
  ∑ κ : Fin 1024, ((x4 (ix4 0 0 d κ) : EReal) * byte (x5 (ix4 0 0 d ⟨κ.val / 32, by omega⟩)))
    * prob (blockRow x0 x1 x2 x3 r s) (blockRow x0 x1 x2 x3 r s κ)

/-- Row `c` of query block `i`. -/
def query (i : Fin 4) (c : Fin 256) : Fin 1024 := ⟨256 * i.val + c.val, by omega⟩

theorem emb_q (p : Fin 7 × Fin 4) (c : Fin 256) (d : Fin 128) :
    (Rect.unit (s := S1x7x1024x128) ![0, p.1.val, 256 * p.2.val, 0] S1x1x256x128.size (inbQ p.1 p.2)).emb (ix4 0 0 c d) = ix4 0 p.1 (query p.2 c) d := by
  funext a; apply Fin.ext
  match a with
  | ⟨0, _⟩ => rfl
  | ⟨1, _⟩ => rfl
  | ⟨2, _⟩ => show 256 * p.2.val + 1 * c.val = 256 * p.2.val + c.val; omega
  | ⟨3, _⟩ => show 0 + 1 * d.val = d.val; omega

theorem emb_s (p : Fin 7 × Fin 4) (c : Fin 256) (d : Fin 4) :
    (Rect.unit (s := S1x7x1024x4) ![0, p.1.val, 256 * p.2.val, 0] S1x1x256x4.size (inbS p.1 p.2)).emb (ix4 0 0 c d) = ix4 0 p.1 (query p.2 c) d := by
  funext a; apply Fin.ext
  match a with
  | ⟨0, _⟩ => rfl
  | ⟨1, _⟩ => rfl
  | ⟨2, _⟩ => show 256 * p.2.val + 1 * c.val = 256 * p.2.val + c.val; omega
  | ⟨3, _⟩ => show 0 + 1 * d.val = d.val; omega

theorem hz : (![0, 0, 0, 0] : Fin 4 → Nat) = fun _ => 0 := funext fun a => by fin_cases a <;> rfl

theorem ld_q (p : Fin 7 × Fin 4) (c : Fin 256) (d : Fin 128) :
    (View.ld x0 (Rect.unit (s := S1x7x1024x128) ![0, p.1.val, 256 * p.2.val, 0] S1x1x256x128.size (inbQ p.1 p.2)) : Vec Ideal S1x1x256x128 .fp8e4m3) (ix4 0 0 c d)
      = x0 (ix4 0 p.1 (query p.2 c) d) := congrArg x0 (emb_q p c d)

theorem ld_s (p : Fin 7 × Fin 4) (c : Fin 256) (d : Fin 4) :
    (View.ld x1 (Rect.unit (s := S1x7x1024x4) ![0, p.1.val, 256 * p.2.val, 0] S1x1x256x4.size (inbS p.1 p.2)) : Vec Ideal S1x1x256x4 .i8) (ix4 0 0 c d)
      = x1 (ix4 0 p.1 (query p.2 c) d) := congrArg x1 (emb_s p c d)

theorem piece_apply (p : Fin 7 × Fin 4) (c : Fin 256) (d : Fin 128) :
    (piece x0 x1 x2 x3 x4 x5 p).2 (ix4 0 0 c d) = blockVal x0 x1 x2 x3 x4 x5 p.1 (query p.2 c) d := by
  have hr : row (kDeq x2 x3)
      (qDeq (View.ld x0 (Rect.unit (s := S1x7x1024x128) ![0, p.1.val, 256 * p.2.val, 0] S1x1x256x128.size (inbQ p.1 p.2)))
        (View.ld x1 (Rect.unit (s := S1x7x1024x4) ![0, p.1.val, 256 * p.2.val, 0] S1x1x256x4.size (inbS p.1 p.2)))) p.2 c
      = blockRow x0 x1 x2 x3 p.1 (query p.2 c) := by
    funext κ
    unfold row blockRow
    show (if κ.val ≤ 256 * p.2.val + c.val then _ else _) = if κ.val ≤ 256 * p.2.val + c.val then _ else _
    refine congrArg (fun z => if κ.val ≤ 256 * p.2.val + c.val then z else ⊥) (Finset.sum_congr rfl fun d _ => ?_)
    rw [kDeq_apply, qDeq_apply, ld_q, ld_s]
  have hp : (piece x0 x1 x2 x3 x4 x5 p).2
      = out (kDeq x2 x3) (vDeq x4 x5)
        (qDeq (View.ld x0 (Rect.unit (s := S1x7x1024x128) ![0, p.1.val, 256 * p.2.val, 0] S1x1x256x128.size (inbQ p.1 p.2)))
          (View.ld x1 (Rect.unit (s := S1x7x1024x4) ![0, p.1.val, 256 * p.2.val, 0] S1x1x256x4.size (inbS p.1 p.2)))) p.2 := by
    unfold piece
    rw [View.ld_unit_zero (S := S1x1x1024x128) hz _ x2, View.ld_unit_zero (S := S1x1x1024x4) hz _ x3, View.ld_unit_zero (S := S1x1x128x1024) hz _ x4,
      View.ld_unit_zero (S := S1x1x128x32) hz _ x5]
  refine (congrFun hp (ix4 0 0 c d)).trans ?_
  rw [out_apply, hr]
  exact Finset.sum_congr rfl fun κ _ => by rw [vDeq_apply]

theorem order_mem : ∀ (r : Fin 7) (i : Fin 4), (r, i) ∈ order := by decide +kernel

/-- The stores of a grid point leave the block's values. -/
theorem canon_apply (y : S1x7x1024x128.Idx) :
    View.canon (order.map (piece x0 x1 x2 x3 x4 x5)) y = blockVal x0 x1 x2 x3 x4 x5 (y 1) (y 2) (y 3) := by
  refine View.canon_apply_of_pieces (Val := Elt Ideal) (e := .bf16) (fun y : S1x7x1024x128.Idx => blockVal x0 x1 x2 x3 x4 x5 (y 1) (y 2) (y 3)) _ ?_ y ?_
  · intro q hq x
    obtain ⟨p, -, rfl⟩ := List.mem_map.mp hq
    have hx : x = ix4 0 0 (x 2) (x 3) := by
      funext a
      match a with
      | ⟨0, _⟩ => exact Fin.ext (by have := (x 0).isLt; exact Nat.lt_one_iff.mp this)
      | ⟨1, _⟩ => exact Fin.ext (by have := (x 1).isLt; exact Nat.lt_one_iff.mp this)
      | ⟨2, _⟩ => rfl
      | ⟨3, _⟩ => rfl
    rw [hx]
    refine (piece_apply x0 x1 x2 x3 x4 x5 p (x 2) (x 3)).trans ?_
    exact (congrArg (fun y : S1x7x1024x128.Idx => blockVal x0 x1 x2 x3 x4 x5 (y 1) (y 2) (y 3)) (emb_q p (x 2) (x 3))).symm
  · have h2 : (y 2).val < 1024 := (y 2).isLt
    have hm (inb) : y ∈ (Rect.unit (s := S1x7x1024x128) ![0, (y 1).val, 256 * ((y 2).val / 256), 0] S1x1x256x128.size inb).set := by
      refine Rect.mem_set_unit.mpr fun a => ?_
      match a with
      | ⟨0, _⟩ => exact ⟨Nat.zero_le _, (y 0).isLt⟩
      | ⟨1, _⟩ => exact ⟨le_rfl, Nat.lt_succ_self _⟩
      | ⟨2, _⟩ => exact ⟨by show 256 * ((y 2).val / 256) ≤ (y 2).val; omega, by show (y 2).val < 256 * ((y 2).val / 256) + 256; omega⟩
      | ⟨3, _⟩ => exact ⟨Nat.zero_le _, by show (y 3).val < 0 + 128; have : (y 3).val < 128 := (y 3).isLt; omega⟩
    exact ⟨_, List.mem_map.mpr ⟨(y 1, ⟨(y 2).val / 256, by omega⟩), order_mem _ _, rfl⟩, hm (inbQ (y 1) ⟨(y 2).val / 256, by omega⟩)⟩

end

/-! ## The array -/

section
variable (a0 : Vec Ideal S2x56x1024x128 .fp8e4m3) (a1 : Vec Ideal S2x56x1024x4 .i8) (a2 : Vec Ideal S2x8x1024x128 .fp8e4m3) (a3 : Vec Ideal S2x8x1024x4 .i8)
  (a4 : Vec Ideal S2x8x128x1024 .fp8e4m3) (a5 : Vec Ideal S2x8x128x32 .i8)

/-- The scores of query `s` of head `h`. -/
def arrRow (b : Fin 2) (h : Fin 56) (s κ : Fin 1024) : EReal :=
  if κ.val ≤ s.val then ∑ d : Fin 128, ((a2 (ix4 b ⟨h.val / 7, by omega⟩ κ d) : EReal) * byte (a3 (ix4 b ⟨h.val / 7, by omega⟩ κ ⟨d.val / 32, by omega⟩)))
    * ((a0 (ix4 b h s d) : EReal) * byte (a1 (ix4 b h s ⟨d.val / 32, by omega⟩))) else ⊥

/-- The result array at an index. -/
def arrVal (b : Fin 2) (h : Fin 56) (s : Fin 1024) (d : Fin 128) : EReal :=
  ∑ κ : Fin 1024, ((a4 (ix4 b ⟨h.val / 7, by omega⟩ d κ) : EReal) * byte (a5 (ix4 b ⟨h.val / 7, by omega⟩ d ⟨κ.val / 32, by omega⟩)))
    * prob (arrRow a0 a1 a2 a3 b h s) (arrRow a0 a1 a2 a3 b h s κ)

/-- The result array. -/
def arr : Vec Ideal S2x56x1024x128 .bf16 := fun j => arrVal a0 a1 a2 a3 a4 a5 (j 0) (j 1) (j 2) (j 3)

end

/-- The batch and the key-value head of a grid point. -/
def gb (t : Fin cfg0.N) : Fin 2 := ⟨t.val / 8, by have : t.val < 16 := t.isLt; omega⟩
def gg (t : Fin cfg0.N) : Fin 8 := ⟨t.val % 8, by omega⟩

theorem index0 : ∀ t : Fin cfg0.N, win0_0.index t (0 : Fin 4) = t.val / 8 ∧ win0_0.index t (1 : Fin 4) = t.val % 8 ∧ win0_0.index t (2 : Fin 4) = 0 ∧ win0_0.index t (3 : Fin 4) = 0 :=
  (by decide +kernel : ∀ t : Fin grid0.N, _)
theorem index1 : ∀ t : Fin cfg0.N, win0_1.index t (0 : Fin 4) = t.val / 8 ∧ win0_1.index t (1 : Fin 4) = t.val % 8 ∧ win0_1.index t (2 : Fin 4) = 0 ∧ win0_1.index t (3 : Fin 4) = 0 :=
  (by decide +kernel : ∀ t : Fin grid0.N, _)
theorem index2 : ∀ t : Fin cfg0.N, win0_2.index t (0 : Fin 4) = t.val / 8 ∧ win0_2.index t (1 : Fin 4) = t.val % 8 ∧ win0_2.index t (2 : Fin 4) = 0 ∧ win0_2.index t (3 : Fin 4) = 0 :=
  (by decide +kernel : ∀ t : Fin grid0.N, _)
theorem index3 : ∀ t : Fin cfg0.N, win0_3.index t (0 : Fin 4) = t.val / 8 ∧ win0_3.index t (1 : Fin 4) = t.val % 8 ∧ win0_3.index t (2 : Fin 4) = 0 ∧ win0_3.index t (3 : Fin 4) = 0 :=
  (by decide +kernel : ∀ t : Fin grid0.N, _)
theorem index4 : ∀ t : Fin cfg0.N, win0_4.index t (0 : Fin 4) = t.val / 8 ∧ win0_4.index t (1 : Fin 4) = t.val % 8 ∧ win0_4.index t (2 : Fin 4) = 0 ∧ win0_4.index t (3 : Fin 4) = 0 :=
  (by decide +kernel : ∀ t : Fin grid0.N, _)
theorem index5 : ∀ t : Fin cfg0.N, win0_5.index t (0 : Fin 4) = t.val / 8 ∧ win0_5.index t (1 : Fin 4) = t.val % 8 ∧ win0_5.index t (2 : Fin 4) = 0 ∧ win0_5.index t (3 : Fin 4) = 0 :=
  (by decide +kernel : ∀ t : Fin grid0.N, _)
theorem index6 : ∀ t : Fin cfg0.N, win0_6.index t (0 : Fin 4) = t.val / 8 ∧ win0_6.index t (1 : Fin 4) = t.val % 8 ∧ win0_6.index t (2 : Fin 4) = 0 ∧ win0_6.index t (3 : Fin 4) = 0 :=
  (by decide +kernel : ∀ t : Fin grid0.N, _)

/-- Head `r` of a grid point. -/
def head (t : Fin cfg0.N) (r : Fin 7) : Fin 56 := ⟨(gg t).val * 7 + r.val, by have := (gg t).isLt; omega⟩

theorem head_div (t : Fin cfg0.N) (r : Fin 7) : (⟨(head t r).val / 7, by omega⟩ : Fin 8) = gg t := Fin.ext (by simp only [head]; omega)

theorem emb0 (t : Fin cfg0.N) (r : Fin 7) (s : Fin 1024) (d : Fin 128) : ((cfg0.win 0).blk t).view.emb (ix4 0 r s d) = ix4 (gb t) (head t r) s d := by
  obtain ⟨e0, e1, e2, e3⟩ := index0 t
  funext a; apply Fin.ext
  match a with
  | ⟨0, _⟩ => show win0_0.index t (0 : Fin 4) * 1 + 1 * 0 = t.val / 8; omega
  | ⟨1, _⟩ => show win0_0.index t (1 : Fin 4) * 7 + 1 * r.val = t.val % 8 * 7 + r.val; omega
  | ⟨2, _⟩ => show win0_0.index t (2 : Fin 4) * 1024 + 1 * s.val = s.val; omega
  | ⟨3, _⟩ => show win0_0.index t (3 : Fin 4) * 128 + 1 * d.val = d.val; omega
theorem emb1 (t : Fin cfg0.N) (r : Fin 7) (s : Fin 1024) (d : Fin 4) : ((cfg0.win 1).blk t).view.emb (ix4 0 r s d) = ix4 (gb t) (head t r) s d := by
  obtain ⟨e0, e1, e2, e3⟩ := index1 t
  funext a; apply Fin.ext
  match a with
  | ⟨0, _⟩ => show win0_1.index t (0 : Fin 4) * 1 + 1 * 0 = t.val / 8; omega
  | ⟨1, _⟩ => show win0_1.index t (1 : Fin 4) * 7 + 1 * r.val = t.val % 8 * 7 + r.val; omega
  | ⟨2, _⟩ => show win0_1.index t (2 : Fin 4) * 1024 + 1 * s.val = s.val; omega
  | ⟨3, _⟩ => show win0_1.index t (3 : Fin 4) * 4 + 1 * d.val = d.val; omega
theorem emb2 (t : Fin cfg0.N) (s : Fin 1024) (d : Fin 128) : ((cfg0.win 2).blk t).view.emb (ix4 0 0 s d) = ix4 (gb t) (gg t) s d := by
  obtain ⟨e0, e1, e2, e3⟩ := index2 t
  funext a; apply Fin.ext
  match a with
  | ⟨0, _⟩ => show win0_2.index t (0 : Fin 4) * 1 + 1 * 0 = t.val / 8; omega
  | ⟨1, _⟩ => show win0_2.index t (1 : Fin 4) * 1 + 1 * 0 = t.val % 8; omega
  | ⟨2, _⟩ => show win0_2.index t (2 : Fin 4) * 1024 + 1 * s.val = s.val; omega
  | ⟨3, _⟩ => show win0_2.index t (3 : Fin 4) * 128 + 1 * d.val = d.val; omega
theorem emb3 (t : Fin cfg0.N) (s : Fin 1024) (d : Fin 4) : ((cfg0.win 3).blk t).view.emb (ix4 0 0 s d) = ix4 (gb t) (gg t) s d := by
  obtain ⟨e0, e1, e2, e3⟩ := index3 t
  funext a; apply Fin.ext
  match a with
  | ⟨0, _⟩ => show win0_3.index t (0 : Fin 4) * 1 + 1 * 0 = t.val / 8; omega
  | ⟨1, _⟩ => show win0_3.index t (1 : Fin 4) * 1 + 1 * 0 = t.val % 8; omega
  | ⟨2, _⟩ => show win0_3.index t (2 : Fin 4) * 1024 + 1 * s.val = s.val; omega
  | ⟨3, _⟩ => show win0_3.index t (3 : Fin 4) * 4 + 1 * d.val = d.val; omega
theorem emb4 (t : Fin cfg0.N) (d : Fin 128) (s : Fin 1024) : ((cfg0.win 4).blk t).view.emb (ix4 0 0 d s) = ix4 (gb t) (gg t) d s := by
  obtain ⟨e0, e1, e2, e3⟩ := index4 t
  funext a; apply Fin.ext
  match a with
  | ⟨0, _⟩ => show win0_4.index t (0 : Fin 4) * 1 + 1 * 0 = t.val / 8; omega
  | ⟨1, _⟩ => show win0_4.index t (1 : Fin 4) * 1 + 1 * 0 = t.val % 8; omega
  | ⟨2, _⟩ => show win0_4.index t (2 : Fin 4) * 128 + 1 * d.val = d.val; omega
  | ⟨3, _⟩ => show win0_4.index t (3 : Fin 4) * 1024 + 1 * s.val = s.val; omega
theorem emb5 (t : Fin cfg0.N) (d : Fin 128) (s : Fin 32) : ((cfg0.win 5).blk t).view.emb (ix4 0 0 d s) = ix4 (gb t) (gg t) d s := by
  obtain ⟨e0, e1, e2, e3⟩ := index5 t
  funext a; apply Fin.ext
  match a with
  | ⟨0, _⟩ => show win0_5.index t (0 : Fin 4) * 1 + 1 * 0 = t.val / 8; omega
  | ⟨1, _⟩ => show win0_5.index t (1 : Fin 4) * 1 + 1 * 0 = t.val % 8; omega
  | ⟨2, _⟩ => show win0_5.index t (2 : Fin 4) * 128 + 1 * d.val = d.val; omega
  | ⟨3, _⟩ => show win0_5.index t (3 : Fin 4) * 32 + 1 * s.val = s.val; omega
theorem emb6 (t : Fin cfg0.N) (j : S1x7x1024x128.Idx) : ((cfg0.win 6).blk t).view.emb j = ix4 (gb t) (head t (j 1)) (j 2) (j 3) := by
  obtain ⟨e0, e1, e2, e3⟩ := index6 t
  have h0 : (j 0).val = 0 := by have := (j 0).isLt; exact Nat.lt_one_iff.mp this
  funext a; apply Fin.ext
  match a with
  | ⟨0, _⟩ => show win0_6.index t (0 : Fin 4) * 1 + 1 * (j 0).val = t.val / 8; omega
  | ⟨1, _⟩ => show win0_6.index t (1 : Fin 4) * 7 + 1 * (j 1).val = t.val % 8 * 7 + (j 1).val; omega
  | ⟨2, _⟩ => show win0_6.index t (2 : Fin 4) * 1024 + 1 * (j 2).val = (j 2).val; omega
  | ⟨3, _⟩ => show win0_6.index t (3 : Fin 4) * 128 + 1 * (j 3).val = (j 3).val; omega

variable (m : (ℓ : Loc nD τ sig) → Buf (Elt Ideal) ℓ) (ρ : Dev nD → PrngReg)

/-- The array as one function of the argument arrays as the region finds them. -/
abbrev arrV (c : Dev nD) : Vec Ideal S2x56x1024x128 .bf16 :=
  arr (V m c main_arg0) (V m c main_arg1) (V m c main_arg2) (V m c main_arg3) (V m c main_arg4) (V m c main_arg5)

theorem block_eq (c : Dev nD) (t : Fin cfg0.N) (r : Fin 7) (s : Fin 1024) (d : Fin 128) :
    blockVal (iblk m c 0 t) (iblk m c 1 t) (iblk m c 2 t) (iblk m c 3 t) (iblk m c 4 t) (iblk m c 5 t) r s d
      = arrVal (V m c main_arg0) (V m c main_arg1) (V m c main_arg2) (V m c main_arg3) (V m c main_arg4) (V m c main_arg5) (gb t) (head t r) s d := by
  have h0 (r s d) : (iblk m c 0 t : Vec Ideal S1x7x1024x128 .fp8e4m3) (ix4 0 r s d) = V m c main_arg0 (ix4 (gb t) (head t r) s d) := congrArg (V m c main_arg0) (emb0 t r s d)
  have h1 (r s d) : (iblk m c 1 t : Vec Ideal S1x7x1024x4 .i8) (ix4 0 r s d) = V m c main_arg1 (ix4 (gb t) (head t r) s d) := congrArg (V m c main_arg1) (emb1 t r s d)
  have h2 (s d) : (iblk m c 2 t : Vec Ideal S1x1x1024x128 .fp8e4m3) (ix4 0 0 s d) = V m c main_arg2 (ix4 (gb t) (gg t) s d) := congrArg (V m c main_arg2) (emb2 t s d)
  have h3 (s d) : (iblk m c 3 t : Vec Ideal S1x1x1024x4 .i8) (ix4 0 0 s d) = V m c main_arg3 (ix4 (gb t) (gg t) s d) := congrArg (V m c main_arg3) (emb3 t s d)
  have h4 (d s) : (iblk m c 4 t : Vec Ideal S1x1x128x1024 .fp8e4m3) (ix4 0 0 d s) = V m c main_arg4 (ix4 (gb t) (gg t) d s) := congrArg (V m c main_arg4) (emb4 t d s)
  have h5 (d s) : (iblk m c 5 t : Vec Ideal S1x1x128x32 .i8) (ix4 0 0 d s) = V m c main_arg5 (ix4 (gb t) (gg t) d s) := congrArg (V m c main_arg5) (emb5 t d s)
  have hr : blockRow (iblk m c 0 t) (iblk m c 1 t) (iblk m c 2 t) (iblk m c 3 t) r s
      = arrRow (V m c main_arg0) (V m c main_arg1) (V m c main_arg2) (V m c main_arg3) (gb t) (head t r) s := by
    funext κ
    unfold blockRow arrRow
    simp only [h0, h1, h2, h3, head_div]
  unfold blockVal arrVal
  rw [hr]
  simp only [h4, h5, head_div]

/-- What a grid point writes back is its block of the array. -/
theorem flushed_eq (c : Dev nD) (t : Fin cfg0.N) : (dats m 0 c).flushed 6 t = ((cfg0.win 6).blk t).view.read (Elt Ideal) (arrV m c) := by
  rw [flushed6_A]
  unfold out0_A_6
  rw [View.read_writes_junk_eq_canon, run_eq]
  funext j
  refine (canon_apply (iblk m c 0 t) (iblk m c 1 t) (iblk m c 2 t) (iblk m c 3 t) (iblk m c 4 t) (iblk m c 5 t) j).trans ?_
  refine (block_eq m c t (j (1 : Fin 4)) (j (2 : Fin 4)) (j (3 : Fin 4))).trans ?_
  exact (congrArg (arrV m c) (emb6 t j)).symm

/-- Every index of the array is in some grid point's block. -/
theorem covered (i : S2x56x1024x128.Idx) : ∃ t : Fin cfg0.N, (cfg0.win 6).flush t = true ∧ i ∈ ((cfg0.win 6).blk t).view.set := by
  have h0 : (i 0).val < 2 := (i 0).isLt
  have h1 : (i 1).val < 56 := (i 1).isLt
  let t : Fin cfg0.N := ⟨8 * (i 0).val + (i 1).val / 7, by show _ < 16; omega⟩
  refine ⟨t, flush0_6 _, ?_⟩
  have h := ((cfg0.win 6).blk t).view.emb_mem_set (ix4 (0 : Fin 1) (⟨(i 1).val % 7, by omega⟩ : Fin 7) (i 2) (i 3))
  rw [emb6] at h
  have e : ix4 (gb t) (head t (⟨(i 1).val % 7, by omega⟩ : Fin 7)) (i 2) (i 3) = i := by
    funext a
    match a with
    | ⟨0, _⟩ => exact Fin.ext (by show (8 * (i 0).val + (i 1).val / 7) / 8 = (i 0).val; omega)
    | ⟨1, _⟩ => exact Fin.ext (by show (8 * (i 0).val + (i 1).val / 7) % 8 * 7 + (i 1).val % 7 = (i 1).val; omega)
    | ⟨2, _⟩ => rfl
    | ⟨3, _⟩ => rfl
  exact e ▸ h

/-- The result array after the run. -/
theorem final (c : Dev nD) : (dats m 0 c).arrAt 6 cfg0.N
    = arr (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) :=
  ((dats m 0 c).arrAt_eq_of_cover 6 (arrV m c) (fun t _ => flushed_eq m c t) covered).trans
    (by unfold arrV; rw [V_main_arg0, V_main_arg1, V_main_arg2, V_main_arg3, V_main_arg4, V_main_arg5])

end Cert.KernelIdeal.Block

end
-- ==== Proof.RefAt.lean ====
/- The reference at an index, over the extended reals: the values weighted by the probabilities of the query's scores. -/
module

public import proofs.«01_k».proof.Proof.Gen.ReferenceIdeal.Value
public import proofs.«01_k».proof.Proof.Fields
public import Idealize.ShloMosaic.Lib.Pointwise

@[expose] public section

set_option maxRecDepth 16384

noncomputable section

namespace Cert.ReferenceIdeal.At

open Cert.ReferenceIdeal Cert.ReferenceIdeal.Gen Cert.Soft Idealize.ShloMosaic Idealize.ShloMosaic.TcCoe

/-! ## Named constants and index equations -/

theorem named_scale : (Named.named κ "score_scale" 0x3DB504F3#32 : Ideal .f32) = (root : EReal) := IdealRules.named_const.ideal_named_scalar _ _ _ _ rfl
theorem named_448 : (Named.named κ "inv_e4m3_max" 0x3B124925#32 : Ideal .f32) = ((1 / 448 : ℝ) : EReal) := IdealRules.named_const.ideal_named_scalar _ _ _ _ rfl
theorem named_ln2 : (Named.named κ "ln2" 0x3F317218#32 : Ideal .f32) = ((Real.log 2 : ℝ) : EReal) := IdealRules.named_const.ideal_named_scalar _ _ _ _ rfl

theorem at2 {A B : Type} {a b : Nat} (f : Fin a → Fin b → A) (x x' : Fin a) (y y' : Fin b) (hx : x.val = x'.val) (hy : y.val = y'.val) :
    f x y = f x' y' := by rw [Fin.ext hx, Fin.ext hy]
theorem at3 {A : Type} {a b c : Nat} (f : Fin a → Fin b → Fin c → A) (x x' : Fin a) (y y' : Fin b) (z z' : Fin c) (hx : x.val = x'.val) (hy : y.val = y'.val)
    (hz : z.val = z'.val) : f x y z = f x' y' z' := by rw [Fin.ext hx, Fin.ext hy, Fin.ext hz]

/-- The key-value head of a query head, counted over the batch. -/
def kvHead (b : Fin 2) (h : Fin 56) : Fin 16 := ⟨b.val * 8 + h.val / 7, by omega⟩
/-- The query head among those of its key-value head. -/
def rep (h : Fin 56) : Fin 7 := ⟨h.val % 7, by omega⟩
/-- The row of a query among those of a key-value head. -/
def qrow (r : Fin 7) (s : Fin 1024) : Fin 7168 := ⟨r.val * 1024 + s.val, by omega⟩

/-! ## The dequantised operands -/

/-- What a scale byte stands for. -/
def byte (x : BitVec 8) : EReal := Ideal.exp2 (FloatOps.sitofp (F := Ideal) .f32 (IntOp.subi (x.setWidth 32) 127#32))

theorem pay2_apply (a0 : Vec Ideal S2x56x1024x128 .fp8e4m3) (a1 : Vec Ideal S2x56x1024x4 .i8) (b : Fin 2) (h : Fin 56) (s : Fin 1024) (d : Fin 128) :
    k0_pay2 a0 a1 (ix3 (kvHead b h) (qrow (rep h) s) d) = (a0 (ix4 b h s d) : EReal) * byte (a1 (ix4 b h s ⟨d.val / 32, by omega⟩)) := by
  pointwise [k0_pay2]
  exact at3 (fun x y z => (a0 (ix4 x y z d) : EReal) * byte (a1 (ix4 x y z ⟨d.val / 32, by omega⟩))) _ _ _ _ _ _
    (by simp only [kvHead]; omega) (by simp only [kvHead, qrow, rep]; omega) (by simp only [qrow, rep]; omega)

theorem pay3_apply (a2 : Vec Ideal S2x8x1024x128 .fp8e4m3) (a3 : Vec Ideal S2x8x1024x4 .i8) (b : Fin 2) (h : Fin 56) (k : Fin 1024) (d : Fin 128) :
    k0_pay3 a2 a3 (ix3 (kvHead b h) k d) = (a2 (ix4 b ⟨h.val / 7, by omega⟩ k d) : EReal) * byte (a3 (ix4 b ⟨h.val / 7, by omega⟩ k ⟨d.val / 32, by omega⟩)) := by
  pointwise [k0_pay3]
  exact at2 (A := EReal) (B := EReal) (fun x y => (a2 (ix4 x y k d) : EReal) * byte (a3 (ix4 x y k ⟨d.val / 32, by omega⟩))) _ _ _ _
    (by simp only [kvHead]; omega) (by simp only [kvHead]; omega)

theorem pay5_apply (a4 : Vec Ideal S2x8x128x1024 .fp8e4m3) (a5 : Vec Ideal S2x8x128x32 .i8) (b : Fin 2) (h : Fin 56) (d : Fin 128) (k : Fin 1024) :
    k0_pay5 a5 (k0_pay4 a4) (ix3 (kvHead b h) d k) = (a4 (ix4 b ⟨h.val / 7, by omega⟩ d k) : EReal) * byte (a5 (ix4 b ⟨h.val / 7, by omega⟩ d ⟨k.val / 32, by omega⟩)) := by
  pointwise [k0_pay5, k0_pay4]
  exact at2 (A := EReal) (B := EReal) (fun x y => (a4 (ix4 x y d k) : EReal) * byte (a5 (ix4 x y d ⟨k.val / 32, by omega⟩))) _ _ _ _
    (by simp only [kvHead]; omega) (by simp only [kvHead]; omega)

/-! ## The probabilities -/

/-- The unscaled scores of a query against all keys, minus infinity beyond the query. -/
def row (q : FVec Ideal S16x7168x128 .bf16) (k : FVec Ideal S16x1024x128 .bf16) (n : Fin 16) (h : Fin 7) (s κ : Fin 1024) : EReal :=
  if κ.val ≤ s.val then ∑ d : Fin 128, (q (ix3 n (qrow h s) d) : EReal) * k (ix3 n κ d) else ⊥

theorem sel (κ s : Fin 1024) (a : EReal) :
    Scalar.select (IntOp.cmpi CmpIPredicate.sle (BitVec.ofNat 32 κ.val) (BitVec.ofNat 32 s.val)) (a * (root : EReal)) ⊥ = (if κ.val ≤ s.val then a else ⊥) * (root : EReal) := by
  have h1 (x : Fin 1024) : (BitVec.ofNat 32 x.val).toInt = x.val := by
    rw [BitVec.toInt_eq_toNat_of_lt (by rw [BitVec.toNat_ofNat]; omega), BitVec.toNat_ofNat]; omega
  show (if BitVec.ofBool (BitVec.sle (BitVec.ofNat 32 κ.val) (BitVec.ofNat 32 s.val)) = 1#1 then _ else _) = _
  rw [BitVec.sle_eq_decide, h1, h1]
  by_cases h : κ.val ≤ s.val
  · simp [h]
  · simp [h, EReal.bot_mul_coe_of_pos root_pos]

theorem pay6_apply (q : FVec Ideal S16x7168x128 .bf16) (k : FVec Ideal S16x1024x128 .bf16) (n : Fin 16) (h : Fin 7) (s : Fin 1024) (b x : Fin 32) :
    k0_pay6 q k (ix5 n h s b x) = Ideal.div (ex (top (row q k n h s)) (row q k n h s ⟨b.val * 32 + x.val, by omega⟩)) (total (row q k n h s)) := by
  pointwise [k0_pay6]
  rw [named_scale, ofBits_neg_inf]
  have hs (κ : Fin 1024) := sel κ s (∑ d : Fin 128, (q (ix3 n (qrow h s) d) : EReal) * k (ix3 n κ d))
  have h0 := hs ⟨b.val * 32 + x.val, by omega⟩
  dsimp only at h0
  unfold total
  simp only [← exp_scale]
  rw [← fold_max]
  unfold row
  simp only [← hs, ← h0]
  rfl

/-- The largest probability of each block. -/
def blockMax (P : FVec Ideal S16x7x1024x32x32 .f32) : FVec Ideal S16x7x1024x32x1 .f32 :=
  shapeCast S16x7x1024x32x1
    (multiReduction .maximumf [4] S16x7x1024x32 P 0xFF800000#32 reduces_S16x7x1024x32x32_S16x7x1024x32 (.inl rfl) rfl : FVec Ideal S16x7x1024x32 .f32) shapeCasts_S16x7x1024x32_S16x7x1024x32x1

/-- The exponents of the blocks' scales, of the largest probabilities. -/
def exponents {t : Shape} (a : FVec Ideal t .f32) : FVec Ideal t .f32 :=
  select (cmpf .oeq a (broadcast t (Scalar.ofBits .f32 0x00000000#32 : Ideal .f32))) (broadcast t (Scalar.ofBits .f32 0x00000000#32 : Ideal .f32))
    (addf (floor (divf (log (mulf a (broadcast t (Named.named κ "inv_e4m3_max" 0x3B124925#32 : Ideal .f32))))
      (broadcast t (Named.named κ "ln2" 0x3F317218#32 : Ideal .f32)))) (broadcast t (Scalar.ofBits .f32 0x3F800000#32 : Ideal .f32)))

/-- The scales' inverses. -/
def inverses {t : Shape} (z : FVec Ideal t .f32) : FVec Ideal t .f32 := exp2 (subf (broadcast t (Scalar.ofBits .f32 0x00000000#32 : Ideal .f32)) z)

theorem pay7_eq (q : FVec Ideal S16x7168x128 .bf16) (k : FVec Ideal S16x1024x128 .bf16) : k0_pay7 q k = exponents (blockMax (k0_pay6 q k)) := rfl
theorem pay8_eq (q : FVec Ideal S16x7168x128 .bf16) (k : FVec Ideal S16x1024x128 .bf16) : k0_pay8 q k = inverses (k0_pay7 q k) := rfl

theorem blockMax_apply (P : FVec Ideal S16x7x1024x32x32 .f32) (n : Fin 16) (h : Fin 7) (s : Fin 1024) (b : Fin 32) :
    blockMax P (ix5 n h s b 0) = ⨆ x : Fin 32, P (ix5 n h s b x) := by
  pointwise [blockMax]
  rw [ofBits_neg_inf]
  exact fold_max fun x : Fin 32 => (P (ix5 n h s b x) : EReal)

theorem exponents_apply {t : Shape} (a : FVec Ideal t .f32) (i : t.Idx) : exponents a i = exponent (a i) := by
  show (if BitVec.ofBool (decide ((a i : EReal) = Ideal.ofBits .f32 0x00000000#32)) = 1#1 then Ideal.ofBits .f32 0x00000000#32
    else Ideal.liftRound Int.floor (Ideal.div (Ideal.log ((a i : EReal) * (Named.named κ "inv_e4m3_max" 0x3B124925#32 : Ideal .f32))) (Named.named κ "ln2" 0x3F317218#32 : Ideal .f32))
      + Ideal.ofBits .f32 0x3F800000#32) = _
  rw [named_448, named_ln2, Ideal.ofBits_zero_f32, Ideal.ofBits_one_f32]
  unfold exponent
  by_cases h : (a i : EReal) = 0 <;> simp [h]

theorem inverses_apply {t : Shape} (z : FVec Ideal t .f32) (i : t.Idx) : inverses z i = Ideal.exp2 (0 - (z i : EReal)) := by
  show Ideal.exp2 (Ideal.ofBits .f32 0x00000000#32 - (z i : EReal)) = _
  rw [Ideal.ofBits_zero_f32]

theorem pay1_apply (v : FVec Ideal S16x128x1024 .bf16) (p : FVec Ideal S16x7x1024x32x32 .f32) (z w : FVec Ideal S16x7x1024x32x1 .f32) (b : Fin 2) (h : Fin 56) (s : Fin 1024) (d : Fin 128) :
    k0_pay1 v p z w (ix4 b h s d) = ∑ κ : Fin 1024,
      min (448 : EReal) (max (-448) ((p (ix5 (kvHead b h) (rep h) s ⟨κ.val / 32, by omega⟩ ⟨κ.val % 32, by omega⟩) : EReal) * w (ix5 (kvHead b h) (rep h) s ⟨κ.val / 32, by omega⟩ 0)))
        * Ideal.exp2 (z (ix5 (kvHead b h) (rep h) s ⟨κ.val / 32, by omega⟩ 0)) * (v (ix3 (kvHead b h) d κ) : EReal) := by
  pointwise [k0_pay1]
  rw [ofBits_448, ofBits_neg_448]
  refine Finset.sum_congr rfl fun κ _ => ?_
  exact at2 (A := EReal) (B := EReal) (fun (x : Fin 7) (_ : Fin 1) => min (448 : EReal) (max (-448) ((p (ix5 (kvHead b h) x s ⟨κ.val / 32, by omega⟩ ⟨κ.val % 32, by omega⟩) : EReal) * w (ix5 (kvHead b h) x s ⟨κ.val / 32, by omega⟩ 0)))
        * Ideal.exp2 (z (ix5 (kvHead b h) x s ⟨κ.val / 32, by omega⟩ 0)) * (v (ix3 (kvHead b h) d κ) : EReal)) _ _ 0 0 (by simp only [rep]; omega) rfl

/-- What the reference returns, of its dequantised operands. -/
theorem out_apply (v : FVec Ideal S16x128x1024 .bf16) (q : FVec Ideal S16x7168x128 .bf16) (k : FVec Ideal S16x1024x128 .bf16) (b : Fin 2) (h : Fin 56) (s : Fin 1024) (d : Fin 128) :
    k0_pay1 v (k0_pay6 q k) (k0_pay7 q k) (k0_pay8 q k) (ix4 b h s d)
      = ∑ κ : Fin 1024, prob (row q k (kvHead b h) (rep h) s) (row q k (kvHead b h) (rep h) s κ) * (v (ix3 (kvHead b h) d κ) : EReal) := by
  rw [pay1_apply]
  refine Finset.sum_congr rfl fun κ _ => congrArg (· * (v (ix3 (kvHead b h) d κ) : EReal)) ?_
  rw [pay8_eq, pay7_eq, inverses_apply, exponents_apply, blockMax_apply]
  simp only [pay6_apply]
  refine (reference_prob (row q k (kvHead b h) (rep h) s) (fun x : Fin 32 => row q k (kvHead b h) (rep h) s ⟨κ.val / 32 * 32 + x.val, by omega⟩)
    (fun x => le_iSup (row q k (kvHead b h) (rep h) s) _) ⟨κ.val % 32, by omega⟩ _ rfl).trans ?_
  exact congrArg (fun y => prob (row q k (kvHead b h) (rep h) s) (row q k (kvHead b h) (rep h) s y)) (Fin.ext (by simp only []; omega))

end Cert.ReferenceIdeal.At

end
-- ==== Proof.Equation.lean ====
/- The kernel's result is the reference's, wherever no scale byte is 0 or 255. -/
module

public import proofs.«01_k».proof.Pre_scales_normal
public import proofs.«01_k».proof.Proof.KernelArray
public import proofs.«01_k».proof.Proof.RefAt
public import Idealize.ShloMosaic.Lib.ReduceAll

@[expose] public section

set_option maxRecDepth 16384

noncomputable section

namespace Cert.Equation

open Cert.Soft Idealize.ShloMosaic Idealize.ShloMosaic.TcCoe
open Cert.KernelIdeal (S2x56x1024x128 S2x56x1024x4 S2x8x1024x128 S2x8x1024x4 S2x8x128x1024 S2x8x128x32)

/-- A byte that is the exponent of a normal number. -/
def Normal (x : BitVec 8) : Prop := 1 ≤ x.toNat ∧ x.toNat ≤ 254

/-- The kernel puts a scale byte into the exponent of a float, the reference raises two to it: the same number. -/
theorem byte_eq (x : BitVec 8) (h : Normal x) : Cert.KernelIdeal.Block.byte x = Cert.ReferenceIdeal.At.byte x := by
  obtain ⟨h1, h2⟩ := h
  unfold Cert.KernelIdeal.Block.byte Cert.ReferenceIdeal.At.byte
  rw [field_byte x h1 h2, ← exp2_int]
  have e : (IntOp.subi (x.setWidth 32) 127#32).toInt = (x.toNat : ℤ) - 127 := by
    revert x; decide +kernel
  show _ = Ideal.exp2 (((IntOp.subi (x.setWidth 32) 127#32).toInt : ℝ) : EReal)
  rw [e]

section
variable (a0 : Vec Ideal S2x56x1024x128 .fp8e4m3) (a1 : Vec Ideal S2x56x1024x4 .i8) (a2 : Vec Ideal S2x8x1024x128 .fp8e4m3) (a3 : Vec Ideal S2x8x1024x4 .i8)
  (a4 : Vec Ideal S2x8x128x1024 .fp8e4m3) (a5 : Vec Ideal S2x8x128x32 .i8)

theorem reference_apply (b : Fin 2) (h : Fin 56) (s : Fin 1024) (d : Fin 128) :
    Cert.ReferenceIdeal.Value.G6 a0 a1 a2 a3 a4 a5 (ix4 b h s d)
      = ∑ κ : Fin 1024, prob (Cert.ReferenceIdeal.At.row (Cert.ReferenceIdeal.Gen.k0_pay2 a0 a1) (Cert.ReferenceIdeal.Gen.k0_pay3 a2 a3)
            (Cert.ReferenceIdeal.At.kvHead b h) (Cert.ReferenceIdeal.At.rep h) s)
          (Cert.ReferenceIdeal.At.row (Cert.ReferenceIdeal.Gen.k0_pay2 a0 a1) (Cert.ReferenceIdeal.Gen.k0_pay3 a2 a3)
            (Cert.ReferenceIdeal.At.kvHead b h) (Cert.ReferenceIdeal.At.rep h) s κ)
        * ((a4 (ix4 b ⟨h.val / 7, by omega⟩ d κ) : EReal) * Cert.ReferenceIdeal.At.byte (a5 (ix4 b ⟨h.val / 7, by omega⟩ d ⟨κ.val / 32, by omega⟩))) := by
  have e9 : Cert.ReferenceIdeal.Gen.k0_pay9 a0 a1 a2 a3 a4 a5 = Cert.ReferenceIdeal.Gen.k0_pay2 a0 a1 := by
    unfold Cert.ReferenceIdeal.Gen.k0_pay9
    rw [View.ld_unit_zero (S := S2x56x1024x128) Cert.ReferenceIdeal.Value.hz0 _ a0, View.ld_unit_zero (S := S2x56x1024x4) Cert.ReferenceIdeal.Value.hz1 _ a1]
  have e10 : Cert.ReferenceIdeal.Gen.k0_pay10 a0 a1 a2 a3 a4 a5 = Cert.ReferenceIdeal.Gen.k0_pay3 a2 a3 := by
    unfold Cert.ReferenceIdeal.Gen.k0_pay10
    rw [View.ld_unit_zero (S := S2x8x1024x128) Cert.ReferenceIdeal.Value.hz2 _ a2, View.ld_unit_zero (S := S2x8x1024x4) Cert.ReferenceIdeal.Value.hz3 _ a3]
  unfold Cert.ReferenceIdeal.Value.G6
  rw [e9, e10, Cert.ReferenceIdeal.At.out_apply]
  exact Finset.sum_congr rfl fun κ _ => by rw [Cert.ReferenceIdeal.At.pay5_apply]

theorem apply_eq (h1 : ∀ i, Normal (a1 i)) (h3 : ∀ i, Normal (a3 i)) (h5 : ∀ i, Normal (a5 i)) (b : Fin 2) (h : Fin 56) (s : Fin 1024) (d : Fin 128) :
    Cert.KernelIdeal.Block.arrVal a0 a1 a2 a3 a4 a5 b h s d = Cert.ReferenceIdeal.Value.G6 a0 a1 a2 a3 a4 a5 (ix4 b h s d) := by
  refine Eq.trans ?_ (reference_apply a0 a1 a2 a3 a4 a5 b h s d).symm
  have hr : Cert.KernelIdeal.Block.arrRow a0 a1 a2 a3 b h s
      = Cert.ReferenceIdeal.At.row (Cert.ReferenceIdeal.Gen.k0_pay2 a0 a1) (Cert.ReferenceIdeal.Gen.k0_pay3 a2 a3)
        (Cert.ReferenceIdeal.At.kvHead b h) (Cert.ReferenceIdeal.At.rep h) s := by
    funext κ
    unfold Cert.KernelIdeal.Block.arrRow Cert.ReferenceIdeal.At.row
    refine congrArg (fun z : EReal => if κ.val ≤ s.val then z else ⊥) (Finset.sum_congr rfl fun d _ => ?_)
    rw [Cert.ReferenceIdeal.At.pay2_apply, Cert.ReferenceIdeal.At.pay3_apply, byte_eq _ (h1 _), byte_eq _ (h3 _)]
    exact mul_comm _ _
  unfold Cert.KernelIdeal.Block.arrVal
  rw [hr]
  exact Finset.sum_congr rfl fun κ _ => by rw [byte_eq _ (h5 _)]; exact mul_comm _ _

/-- The two programs compute the same array. -/
theorem result_eq (h1 : ∀ i, Normal (a1 i)) (h3 : ∀ i, Normal (a3 i)) (h5 : ∀ i, Normal (a5 i)) :
    Cert.KernelIdeal.Block.arr a0 a1 a2 a3 a4 a5 = Cert.ReferenceIdeal.Value.G6 a0 a1 a2 a3 a4 a5 := by
  funext j
  have hj : ix4 (j 0) (j 1) (j 2) (j 3) = j := by
    funext a
    match a with
    | ⟨0, _⟩ => rfl
    | ⟨1, _⟩ => rfl
    | ⟨2, _⟩ => rfl
    | ⟨3, _⟩ => rfl
  exact (apply_eq a0 a1 a2 a3 a4 a5 h1 h3 h5 (j 0) (j 1) (j 2) (j 3)).trans (congrArg (Cert.ReferenceIdeal.Value.G6 a0 a1 a2 a3 a4 a5) hj)

/-! ## The precondition -/

theorem sub_scalar : Subsingleton Cert.Pre_scales_normal.S_.Idx := ⟨fun a b => funext fun k => Fin.elim0 k⟩

/-- The precondition holds: every scale byte is the exponent of a normal number. -/
theorem of_pre [Cert.Pre_scales_normal.Facts] (h : Cert.Pre_scales_normal.fn (F := Ideal) a0 a1 a2 a3 a4 a5 = fun _ => 1#1) :
    (∀ i, Normal (a1 i)) ∧ (∀ i, Normal (a3 i)) ∧ (∀ i, Normal (a5 i)) := by
  haveI := sub_scalar
  have e := congrFun h (fun k => Fin.elim0 k)
  obtain ⟨e13, e5⟩ := IntOp.andi_eq_one.1 e
  obtain ⟨e1, e3⟩ := IntOp.andi_eq_one.1 e13
  refine ⟨fun i => ?_, fun i => ?_, fun i => ?_⟩
  · obtain ⟨u, v⟩ := IntOp.andi_eq_one.1 (Host.reduce_andi_all _ _ _ _ _ e1 i)
    exact ⟨IntOp.cmpi_uge.1 u, IntOp.cmpi_ule.1 v⟩
  · obtain ⟨u, v⟩ := IntOp.andi_eq_one.1 (Host.reduce_andi_all _ _ _ _ _ e3 i)
    exact ⟨IntOp.cmpi_uge.1 u, IntOp.cmpi_ule.1 v⟩
  · obtain ⟨u, v⟩ := IntOp.andi_eq_one.1 (Host.reduce_andi_all _ _ _ _ _ e5 i)
    exact ⟨IntOp.cmpi_uge.1 u, IntOp.cmpi_ule.1 v⟩

end

end Cert.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Frame
public import proofs.«01_k».proof.Proof.Gen.ReferenceIdeal.Value
public import proofs.«01_k».proof.Proof.Gen.Pre_scales_normal
public import proofs.«01_k».proof.Proof.Equation
public import Idealize.ShloMosaic.Adequacy
public import Idealize.ShloMosaic.Init

@[expose] public section

noncomputable section

namespace Cert.Proof

open Idealize.ShloMosaic Idealize.SL.Sem

/-- Idealizing replaced two float constants by the reals they stand for. -/
theorem preserves : preserves_Kernel_KernelIdeal :=
  ⟨IdealRules.named_const.statement _ _ _ _ _ rfl, IdealRules.named_const.statement _ _ _ _ _ rfl⟩

/-- From the same arguments the two programs end with the same result. -/
theorem algebraic [Cert.Pre_scales_normal.Facts] : algebraic_KernelIdeal_ReferenceIdeal_pre_scales_normal := by
  intro m g m' g' hpre hagree
  refine ⟨fun c => (Cert.KernelIdeal.Gen.dats m 0 c).arrAt 6 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨e0, e1, e2, e3, e4, e5⟩ := hagree c
  obtain ⟨h1, h3, h5⟩ := Cert.Equation.of_pre _ _ _ _ _ _ (hpre c)
  refine Eq.trans ?_ ((Cert.KernelIdeal.Block.final m c).trans (Cert.Equation.result_eq _ _ _ _ _ _ h1 h3 h5)).symm
  rw [← e0, ← e1, ← e2, ← e3, ← e4, ← e5]

theorem claim : Cert.Claim := ⟨Cert.Kernel.Gen.facts, Cert.KernelIdeal.Gen.facts, Cert.ReferenceIdeal.Gen.facts, Cert.Pre_scales_normal.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
